-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v71_0)) (v1 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71_0) = v0 c
          ∧ r.2.mem ((c.tc : Thread Cert.KernelIdeal.nD Cert.KernelIdeal.τ).loc Cert.KernelIdeal.main_v73) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v1_16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S256x20x512 : Shape := ⟨3, ![256, 20, 512]⟩
abbrev S256x20x2 : Shape := ⟨3, ![256, 20, 2]⟩
abbrev S256 : Shape := ⟨1, ![256]⟩
abbrev S768x768 : Shape := ⟨2, ![768, 768]⟩
abbrev S256x768 : Shape := ⟨2, ![256, 768]⟩
abbrev S768 : Shape := ⟨1, ![768]⟩
abbrev S512x768 : Shape := ⟨2, ![512, 768]⟩
abbrev S512x256 : Shape := ⟨2, ![512, 256]⟩
abbrev S9x9 : Shape := ⟨2, ![9, 9]⟩
abbrev S9 : Shape := ⟨1, ![9]⟩
abbrev S256x20x1 : Shape := ⟨3, ![256, 20, 1]⟩
abbrev S256x20 : Shape := ⟨2, ![256, 20]⟩
abbrev S_ : Shape := ⟨0, ![]⟩
abbrev S256x20x768x9 : Shape := ⟨4, ![256, 20, 768, 9]⟩

class Facts : Prop where
  slices_S256x20x2_S256x20x1_0_0_0 : S256x20x2.Slices ![0, 0, 0] S256x20x1
  shapeCasts_S256x20x1_S256x20 : S256x20x1.ShapeCasts S256x20
  slices_S256x20x2_S256x20x1_0_0_1 : S256x20x2.Slices ![0, 0, 1] S256x20x1
  bcast_S_S256x20 : S_.BroadcastsInDim S256x20 (![] : Fin 0 → Fin S256x20.rank)
  bcast_S_S256 : S_.BroadcastsInDim S256 (![] : Fin 0 → Fin S256.rank)
  bcast_S_S768 : S_.BroadcastsInDim S768 (![] : Fin 0 → Fin S768.rank)
  bcast_S256x20_S256x20x768x9_0_1 : S256x20.BroadcastsInDim S256x20x768x9 (![0, 1] : Fin 2 → Fin S256x20x768x9.rank)
  bcast_S256_S256x20x768x9_0 : S256.BroadcastsInDim S256x20x768x9 (![0] : Fin 1 → Fin S256x20x768x9.rank)
  bcast_S768_S256x20x768x9_2 : S768.BroadcastsInDim S256x20x768x9 (![2] : Fin 1 → Fin S256x20x768x9.rank)
  bcast_S_S9 : S_.BroadcastsInDim S9 (![] : Fin 0 → Fin S9.rank)
  bcast_S9_S256x20x768x9_3 : S9.BroadcastsInDim S256x20x768x9 (![3] : Fin 1 → Fin S256x20x768x9.rank)

variable [Facts]

def fn_part2 {F : FTy → Type} [FloatOps F] (main_arg14 : FVec F S768 .f32) (main_arg16 : FVec F S256 .f32) (main_arg18 : FVec F S9 .f32) (main_v16 : IVec S256x20 1) (main_v21 : IVec S256 1) (main_v35 : IVec S768 1) (main_cst_9 : FVec F S_ .f32) : IVec S256x20x768x9 1 :=
  let main_v36 : FVec F S768 .f32 := broadcastInDim S768 ![] bcast_S_S768 main_cst_9
  let main_v37 : IVec S768 1 := cmpf .oeq main_arg14 main_v36
  let main_v38 : IVec S768 1 := andi main_v35 main_v37
  let main_v39 : IVec S256x20x768x9 1 := broadcastInDim S256x20x768x9 ![0, 1] bcast_S256x20_S256x20x768x9_0_1 main_v16
  let main_v40 : IVec S256x20x768x9 1 := broadcastInDim S256x20x768x9 ![0] bcast_S256_S256x20x768x9_0 main_v21
  let main_v41 : IVec S256x20x768x9 1 := andi main_v39 main_v40
  let main_v42 : IVec S256x20x768x9 1 := broadcastInDim S256x20x768x9 ![2] bcast_S768_S256x20x768x9_2 main_v38
  let main_v43 : IVec S256x20x768x9 1 := andi main_v41 main_v42
  let main_cst_10 : FVec F S_ .f32 := constant S_ .f32 0x00000000#32
  let main_v44 : FVec F S256 .f32 := broadcastInDim S256 ![] bcast_S_S256 main_cst_10
  let main_v45 : IVec S256 1 := cmpf .oeq main_arg16 main_v44
  let main_v46 : IVec S256x20x768x9 1 := broadcastInDim S256x20x768x9 ![0] bcast_S256_S256x20x768x9_0 main_v45
  let main_v47 : IVec S256x20x768x9 1 := andi main_v43 main_v46
  let main_cst_11 : FVec F S_ .f32 := constant S_ .f32 0x00000000#32
  let main_v48 : FVec F S9 .f32 := broadcastInDim S9 ![] bcast_S_S9 main_cst_11
  let main_v49 : IVec S9 1 := cmpf .oeq main_arg18 main_v48
  let main_v50 : IVec S256x20x768x9 1 := broadcastInDim S256x20x768x9 ![3] bcast_S9_S256x20x768x9_3 main_v49
  let main_v51 : IVec S256x20x768x9 1 := andi main_v47 main_v50
  main_v51

def fn_part1 {F : FTy → Type} [FloatOps F] (main_arg2 : IVec S256 32) (main_arg5 : FVec F S768 .f32) (main_arg6 : FVec F S768 .f32) (main_arg9 : FVec F S768 .f32) (main_arg10 : FVec F S768 .f32) (main_arg13 : FVec F S768 .f32) (main_arg14 : FVec F S768 .f32) (main_arg16 : FVec F S256 .f32) (main_arg18 : FVec F S9 .f32) (main_v16 : IVec S256x20 1) (main_v18 : IVec S256 1) : IVec S256x20x768x9 1 :=
  let main_c_4 : IVec S_ 32 := constantI S_ 32 10#32
  let main_v19 : IVec S256 32 := broadcastInDim S256 ![] bcast_S_S256 main_c_4
  let main_v20 : IVec S256 1 := cmpi .slt main_arg2 main_v19
  let main_v21 : IVec S256 1 := andi main_v18 main_v20
  let main_cst : FVec F S_ .f32 := constant S_ .f32 0x00000000#32
  let main_v22 : FVec F S768 .f32 := broadcastInDim S768 ![] bcast_S_S768 main_cst
  let main_v23 : IVec S768 1 := cmpf .oeq main_arg5 main_v22
  let main_cst_5 : FVec F S_ .f32 := constant S_ .f32 0x00000000#32
  let main_v24 : FVec F S768 .f32 := broadcastInDim S768 ![] bcast_S_S768 main_cst_5
  let main_v25 : IVec S768 1 := cmpf .oeq main_arg6 main_v24
  let main_v26 : IVec S768 1 := andi main_v23 main_v25
  let main_cst_6 : FVec F S_ .f32 := constant S_ .f32 0x00000000#32
  let main_v27 : FVec F S768 .f32 := broadcastInDim S768 ![] bcast_S_S768 main_cst_6
  let main_v28 : IVec S768 1 := cmpf .oeq main_arg9 main_v27
  let main_v29 : IVec S768 1 := andi main_v26 main_v28
  let main_cst_7 : FVec F S_ .f32 := constant S_ .f32 0x00000000#32
  let main_v30 : FVec F S768 .f32 := broadcastInDim S768 ![] bcast_S_S768 main_cst_7
  let main_v31 : IVec S768 1 := cmpf .oeq main_arg10 main_v30
  let main_v32 : IVec S768 1 := andi main_v29 main_v31
  let main_cst_8 : FVec F S_ .f32 := constant S_ .f32 0x00000000#32
  let main_v33 : FVec F S768 .f32 := broadcastInDim S768 ![] bcast_S_S768 main_cst_8
  let main_v34 : IVec S768 1 := cmpf .oeq main_arg13 main_v33
  let main_v35 : IVec S768 1 := andi main_v32 main_v34
  let main_cst_9 : FVec F S_ .f32 := constant S_ .f32 0x00000000#32
  fn_part2 (F := F) main_arg14 main_arg16 main_arg18 main_v16 main_v21 main_v35 main_cst_9

def fn {F : FTy → Type} [FloatOps F] (main_arg0 : FVec F S256x20x512 .f32) (main_arg1 : IVec S256x20x2 32) (main_arg2 : IVec S256 32) (main_arg3 : FVec F S768x768 .f32) (main_arg4 : FVec F S256x768 .f32) (main_arg5 : FVec F S768 .f32) (main_arg6 : FVec F S768 .f32) (main_arg7 : FVec F S768x768 .f32) (main_arg8 : FVec F S256x768 .f32) (main_arg9 : FVec F S768 .f32) (main_arg10 : FVec F S768 .f32) (main_arg11 : FVec F S512x768 .f32) (main_arg12 : FVec F S256x768 .f32) (main_arg13 : FVec F S768 .f32) (main_arg14 : FVec F S768 .f32) (main_arg15 : FVec F S512x256 .f32) (main_arg16 : FVec F S256 .f32) (main_arg17 : FVec F S9x9 .f32) (main_arg18 : FVec F S9 .f32) : IVec S256x20x768x9 1 :=
  let main_v0 : IVec S256x20x1 32 := (extractStridedSlice S256x20x1 ![0, 0, 0] · slices_S256x20x2_S256x20x1_0_0_0) main_arg1
  let main_v1 : IVec S256x20 32 := shapeCast S256x20 main_v0 shapeCasts_S256x20x1_S256x20
  let main_v2 : IVec S256x20x1 32 := (extractStridedSlice S256x20x1 ![0, 0, 1] · slices_S256x20x2_S256x20x1_0_0_1) main_arg1
  let main_v3 : IVec S256x20 32 := shapeCast S256x20 main_v2 shapeCasts_S256x20x1_S256x20
  let main_c : IVec S_ 32 := constantI S_ 32 0#32
  let main_v4 : IVec S256x20 32 := broadcastInDim S256x20 ![] bcast_S_S256x20 main_c
  let main_v5 : IVec S256x20 1 := cmpi .sge main_v1 main_v4
  let main_c_0 : IVec S_ 32 := constantI S_ 32 10#32
  let main_v6 : IVec S256x20 32 := broadcastInDim S256x20 ![] bcast_S_S256x20 main_c_0
  let main_v7 : IVec S256x20 1 := cmpi .slt main_v1 main_v6
  let main_v8 : IVec S256x20 1 := andi main_v5 main_v7
  let main_c_1 : IVec S_ 32 := constantI S_ 32 0#32
  let main_v9 : IVec S256x20 32 := broadcastInDim S256x20 ![] bcast_S_S256x20 main_c_1
  let main_v10 : IVec S256x20 1 := cmpi .sge main_v3 main_v9
  let main_v11 : IVec S256x20 1 := andi main_v8 main_v10
  let main_c_2 : IVec S_ 32 := constantI S_ 32 10#32
  let main_v12 : IVec S256x20 32 := broadcastInDim S256x20 ![] bcast_S_S256x20 main_c_2
  let main_v13 : IVec S256x20 1 := cmpi .slt main_v3 main_v12
  let main_v14 : IVec S256x20 1 := andi main_v11 main_v13
  let main_v15 : IVec S256x20 1 := cmpi .ne main_v1 main_v3
  let main_v16 : IVec S256x20 1 := andi main_v14 main_v15
  let main_c_3 : IVec S_ 32 := constantI S_ 32 0#32
  let main_v17 : IVec S256 32 := broadcastInDim S256 ![] bcast_S_S256 main_c_3
  let main_v18 : IVec S256 1 := cmpi .sge main_arg2 main_v17
  fn_part1 (F := F) main_arg2 main_arg5 main_arg6 main_arg9 main_arg10 main_arg13 main_arg14 main_arg16 main_arg18 main_v16 main_v18
-- ==== Kernel.lean ====
abbrev S256x20x512 : Shape := ⟨3, ![256, 20, 512]⟩
abbrev S256x20x2 : Shape := ⟨3, ![256, 20, 2]⟩
abbrev S256 : Shape := ⟨1, ![256]⟩
abbrev S768x768 : Shape := ⟨2, ![768, 768]⟩
abbrev S256x768 : Shape := ⟨2, ![256, 768]⟩
abbrev S768 : Shape := ⟨1, ![768]⟩
abbrev S512x768 : Shape := ⟨2, ![512, 768]⟩
abbrev S512x256 : Shape := ⟨2, ![512, 256]⟩
abbrev S9x9 : Shape := ⟨2, ![9, 9]⟩
abbrev S9 : Shape := ⟨1, ![9]⟩
abbrev S512x2304 : Shape := ⟨2, ![512, 2304]⟩
abbrev S256x1536 : Shape := ⟨2, ![256, 1536]⟩
abbrev S256x256 : Shape := ⟨2, ![256, 256]⟩
abbrev S32x256 : Shape := ⟨2, ![32, 256]⟩
abbrev S1x32x256 : Shape := ⟨3, ![1, 32, 256]⟩
abbrev S8x32x256 : Shape := ⟨3, ![8, 32, 256]⟩
abbrev S256x20x1 : Shape := ⟨3, ![256, 20, 1]⟩
abbrev S256x20 : Shape := ⟨2, ![256, 20]⟩
abbrev S10 : Shape := ⟨1, ![10]⟩
abbrev S1x10x1 : Shape := ⟨3, ![1, 10, 1]⟩
abbrev S20x256 : Shape := ⟨2, ![20, 256]⟩
abbrev S20x1x256 : Shape := ⟨3, ![20, 1, 256]⟩
abbrev S20x10x256 : Shape := ⟨3, ![20, 10, 256]⟩
abbrev S10x1 : Shape := ⟨2, ![10, 1]⟩
abbrev S1x256 : Shape := ⟨2, ![1, 256]⟩
abbrev S10x256 : Shape := ⟨2, ![10, 256]⟩
abbrev S9x1 : Shape := ⟨2, ![9, 1]⟩
abbrev S9x256 : Shape := ⟨2, ![9, 256]⟩
abbrev S20x256x512 : Shape := ⟨3, ![20, 256, 512]⟩
abbrev S256x9 : Shape := ⟨2, ![256, 9]⟩
abbrev S2560x256 : Shape := ⟨2, ![2560, 256]⟩
abbrev S2x256x512 : Shape := ⟨3, ![2, 256, 512]⟩
abbrev S2x10x256 : Shape := ⟨3, ![2, 10, 256]⟩
abbrev S1x256x512 : Shape := ⟨3, ![1, 256, 512]⟩
abbrev S256x512 : Shape := ⟨2, ![256, 512]⟩
abbrev S1x10x256 : Shape := ⟨3, ![1, 10, 256]⟩
abbrev S256x2304 : Shape := ⟨2, ![256, 2304]⟩
abbrev S10x256x256 : Shape := ⟨3, ![10, 256, 256]⟩
abbrev S10x256x1 : Shape := ⟨3, ![10, 256, 1]⟩
abbrev S1x256x768 : Shape := ⟨3, ![1, 256, 768]⟩
abbrev S2x256x768 : Shape := ⟨3, ![2, 256, 768]⟩
abbrev S2x256x256 : Shape := ⟨3, ![2, 256, 256]⟩
abbrev S1x256x256 : Shape := ⟨3, ![1, 256, 256]⟩
abbrev S2x256 : Shape := ⟨2, ![2, 256]⟩
abbrev S2x256x1 : Shape := ⟨3, ![2, 256, 1]⟩
abbrev S2560x32x8 : Shape := ⟨3, ![2560, 32, 8]⟩
abbrev S2560x32 : Shape := ⟨2, ![2560, 32]⟩
abbrev S10x256x32 : Shape := ⟨3, ![10, 256, 32]⟩
abbrev S1x256x32 : Shape := ⟨3, ![1, 256, 32]⟩
abbrev S256x32 : Shape := ⟨2, ![256, 32]⟩
abbrev S256x10x256 : Shape := ⟨3, ![256, 10, 256]⟩

abbrev nBuf : Space → Nat
  | .hbm => 94
  | .vmem => 17
  | .smem => 0
  | _ => 0

abbrev bufTy : (tb : Table) → Fin (tcTables nBuf tb) → BufTy
  | .hbm, ⟨0, _⟩ => ⟨S256x20x512, .f32⟩
  | .hbm, ⟨1, _⟩ => ⟨S256x20x2, .i32⟩
  | .hbm, ⟨2, _⟩ => ⟨S256, .i32⟩
  | .hbm, ⟨3, _⟩ => ⟨S768x768, .f32⟩
  | .hbm, ⟨4, _⟩ => ⟨S256x768, .f32⟩
  | .hbm, ⟨5, _⟩ => ⟨S768, .f32⟩
  | .hbm, ⟨6, _⟩ => ⟨S768, .f32⟩
  | .hbm, ⟨7, _⟩ => ⟨S768x768, .f32⟩
  | .hbm, ⟨8, _⟩ => ⟨S256x768, .f32⟩
  | .hbm, ⟨9, _⟩ => ⟨S768, .f32⟩
  | .hbm, ⟨10, _⟩ => ⟨S768, .f32⟩
  | .hbm, ⟨11, _⟩ => ⟨S512x768, .f32⟩
  | .hbm, ⟨12, _⟩ => ⟨S256x768, .f32⟩
  | .hbm, ⟨13, _⟩ => ⟨S768, .f32⟩
  | .hbm, ⟨14, _⟩ => ⟨S768, .f32⟩
  | .hbm, ⟨15, _⟩ => ⟨S512x256, .f32⟩
  | .hbm, ⟨16, _⟩ => ⟨S256, .f32⟩
  | .hbm, ⟨17, _⟩ => ⟨S9x9, .f32⟩
  | .hbm, ⟨18, _⟩ => ⟨S9, .f32⟩
  | .hbm, ⟨19, _⟩ => ⟨S512x768, .f32⟩
  | .hbm, ⟨20, _⟩ => ⟨S512x768, .f32⟩
  | .hbm, ⟨21, _⟩ => ⟨S512x2304, .f32⟩
  | .hbm, ⟨22, _⟩ => ⟨S512x2304, .bf16⟩
  | .hbm, ⟨23, _⟩ => ⟨S256x768, .f32⟩
  | .hbm, ⟨24, _⟩ => ⟨S256x1536, .f32⟩
  | .hbm, ⟨25, _⟩ => ⟨S256x1536, .bf16⟩
  | .hbm, ⟨26, _⟩ => ⟨S256x768, .f32⟩
  | .hbm, ⟨27, _⟩ => ⟨S256x1536, .f32⟩
  | .hbm, ⟨28, _⟩ => ⟨S256x1536, .bf16⟩
  | .hbm, ⟨29, _⟩ => ⟨S256x256, .f32⟩
  | .hbm, ⟨30, _⟩ => ⟨S32x256, .f32⟩
  | .hbm, ⟨31, _⟩ => ⟨S256x256, .f32⟩
  | .hbm, ⟨32, _⟩ => ⟨S32x256, .f32⟩
  | .hbm, ⟨33, _⟩ => ⟨S256x256, .f32⟩
  | .hbm, ⟨34, _⟩ => ⟨S32x256, .f32⟩
  | .hbm, ⟨35, _⟩ => ⟨S256x256, .f32⟩
  | .hbm, ⟨36, _⟩ => ⟨S32x256, .f32⟩
  | .hbm, ⟨37, _⟩ => ⟨S256x256, .f32⟩
  | .hbm, ⟨38, _⟩ => ⟨S32x256, .f32⟩
  | .hbm, ⟨39, _⟩ => ⟨S256x256, .f32⟩
  | .hbm, ⟨40, _⟩ => ⟨S32x256, .f32⟩
  | .hbm, ⟨41, _⟩ => ⟨S256x256, .f32⟩
  | .hbm, ⟨42, _⟩ => ⟨S32x256, .f32⟩
  | .hbm, ⟨43, _⟩ => ⟨S256x256, .f32⟩
  | .hbm, ⟨44, _⟩ => ⟨S32x256, .f32⟩
  | .hbm, ⟨45, _⟩ => ⟨S1x32x256, .f32⟩
  | .hbm, ⟨46, _⟩ => ⟨S1x32x256, .f32⟩
  | .hbm, ⟨47, _⟩ => ⟨S1x32x256, .f32⟩
  | .hbm, ⟨48, _⟩ => ⟨S1x32x256, .f32⟩
  | .hbm, ⟨49, _⟩ => ⟨S1x32x256, .f32⟩
  | .hbm, ⟨50, _⟩ => ⟨S1x32x256, .f32⟩
  | .hbm, ⟨51, _⟩ => ⟨S1x32x256, .f32⟩
  | .hbm, ⟨52, _⟩ => ⟨S1x32x256, .f32⟩
  | .hbm, ⟨53, _⟩ => ⟨S8x32x256, .f32⟩
  | .hbm, ⟨54, _⟩ => ⟨S256x256, .f32⟩
  | .hbm, ⟨55, _⟩ => ⟨S256x768, .bf16⟩
  | .hbm, ⟨56, _⟩ => ⟨S256x20x1, .i32⟩
  | .hbm, ⟨57, _⟩ => ⟨S256x20, .i32⟩
  | .hbm, ⟨58, _⟩ => ⟨S256x20x1, .i32⟩
  | .hbm, ⟨59, _⟩ => ⟨S256x20, .i32⟩
  | .hbm, ⟨60, _⟩ => ⟨S10, .i32⟩
  | .hbm, ⟨61, _⟩ => ⟨S1x10x1, .i32⟩
  | .hbm, ⟨62, _⟩ => ⟨S20x256, .i32⟩
  | .hbm, ⟨63, _⟩ => ⟨S20x1x256, .i32⟩
  | .hbm, ⟨64, _⟩ => ⟨S20x10x256, .i32⟩
  | .hbm, ⟨65, _⟩ => ⟨S20x10x256, .i32⟩
  | .hbm, ⟨66, _⟩ => ⟨S20x10x256, .i1⟩
  | .hbm, ⟨67, _⟩ => ⟨S20x10x256, .f32⟩
  | .hbm, ⟨68, _⟩ => ⟨S20x256, .i32⟩
  | .hbm, ⟨69, _⟩ => ⟨S20x1x256, .i32⟩
  | .hbm, ⟨70, _⟩ => ⟨S20x10x256, .i32⟩
  | .hbm, ⟨71, _⟩ => ⟨S20x10x256, .i32⟩
  | .hbm, ⟨72, _⟩ => ⟨S20x10x256, .i1⟩
  | .hbm, ⟨73, _⟩ => ⟨S20x10x256, .f32⟩
  | .hbm, ⟨74, _⟩ => ⟨S10, .i32⟩
  | .hbm, ⟨75, _⟩ => ⟨S10x1, .i32⟩
  | .hbm, ⟨76, _⟩ => ⟨S1x256, .i32⟩
  | .hbm, ⟨77, _⟩ => ⟨S10x256, .i32⟩
  | .hbm, ⟨78, _⟩ => ⟨S10x256, .i32⟩
  | .hbm, ⟨79, _⟩ => ⟨S10x256, .i1⟩
  | .hbm, ⟨80, _⟩ => ⟨S10x256, .f32⟩
  | .hbm, ⟨81, _⟩ => ⟨S9, .i32⟩
  | .hbm, ⟨82, _⟩ => ⟨S9x1, .i32⟩
  | .hbm, ⟨83, _⟩ => ⟨S1x256, .i32⟩
  | .hbm, ⟨84, _⟩ => ⟨S9x256, .i32⟩
  | .hbm, ⟨85, _⟩ => ⟨S9x256, .i32⟩
  | .hbm, ⟨86, _⟩ => ⟨S9x256, .i1⟩
  | .hbm, ⟨87, _⟩ => ⟨S9x256, .f32⟩
  | .hbm, ⟨88, _⟩ => ⟨S20x256x512, .f32⟩
  | .hbm, ⟨89, _⟩ => ⟨S20x256x512, .bf16⟩
  | .hbm, ⟨90, _⟩ => ⟨S256x9, .f32⟩
  | .hbm, ⟨91, _⟩ => ⟨S2560x256, .f32⟩
  | .hbm, ⟨92, _⟩ => ⟨S10x256x256, .f32⟩
  | .hbm, ⟨93, _⟩ => ⟨S256x10x256, .f32⟩
  | .local _ .vmem, ⟨0, _⟩ => ⟨S2x256x512, .bf16⟩
  | .local _ .vmem, ⟨1, _⟩ => ⟨S2x256x512, .bf16⟩
  | .local _ .vmem, ⟨2, _⟩ => ⟨S2x10x256, .f32⟩
  | .local _ .vmem, ⟨3, _⟩ => ⟨S2x10x256, .f32⟩
  | .local _ .vmem, ⟨4, _⟩ => ⟨S2x10x256, .f32⟩
  | .local _ .vmem, ⟨5, _⟩ => ⟨S2x10x256, .f32⟩
  | .local _ .vmem, ⟨6, _⟩ => ⟨S10x256, .f32⟩
  | .local _ .vmem, ⟨7, _⟩ => ⟨S9x256, .f32⟩
  | .local _ .vmem, ⟨8, _⟩ => ⟨S512x2304, .bf16⟩
  | .local _ .vmem, ⟨9, _⟩ => ⟨S256x768, .bf16⟩
  | .local _ .vmem, ⟨10, _⟩ => ⟨S256x1536, .bf16⟩
  | .local _ .vmem, ⟨11, _⟩ => ⟨S256x1536, .bf16⟩
  | .local _ .vmem, ⟨12, _⟩ => ⟨S256x256, .f32⟩
  | .local _ .vmem, ⟨13, _⟩ => ⟨S8x32x256, .f32⟩
  | .local _ .vmem, ⟨14, _⟩ => ⟨S9x9, .f32⟩
  | .local _ .vmem, ⟨15, _⟩ => ⟨S256x9, .f32⟩
  | .local _ .vmem, ⟨16, _⟩ => ⟨S2560x256, .f32⟩
  | _, _ => ⟨S256x20x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71_0 : Ref sig .tc := ⟨.hbm, 90, rfl⟩
abbrev main_v71_1 : Ref sig .tc := ⟨.hbm, 91, rfl⟩
abbrev main_v72 : Ref sig .tc := ⟨.hbm, 92, rfl⟩
abbrev main_v73 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v673 : BitVec 1 := Scalar.cmpi .eq arg0 c9_i32
  let v674 : BitVec 32 := Scalar.extui v673
  let c0_i32_112 : BitVec 32 := 0#32
  let v675 : BitVec 1 := Scalar.cmpi .ne v674 c0_i32_112
  v675

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x10x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x10x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S10x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2304 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1536 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1536 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x32x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S9x9 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x9 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2560x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceIdeal.lean ====
abbrev S256x20x512 : Shape := ⟨3, ![256, 20, 512]⟩
abbrev S256x20x2 : Shape := ⟨3, ![256, 20, 2]⟩
abbrev S256 : Shape := ⟨1, ![256]⟩
abbrev S768x768 : Shape := ⟨2, ![768, 768]⟩
abbrev S256x768 : Shape := ⟨2, ![256, 768]⟩
abbrev S768 : Shape := ⟨1, ![768]⟩
abbrev S512x768 : Shape := ⟨2, ![512, 768]⟩
abbrev S512x256 : Shape := ⟨2, ![512, 256]⟩
abbrev S9x9 : Shape := ⟨2, ![9, 9]⟩
abbrev S9 : Shape := ⟨1, ![9]⟩
abbrev S_ : Shape := ⟨0, ![]⟩
abbrev S256x10x256 : Shape := ⟨3, ![256, 10, 256]⟩
abbrev S256x1x512 : Shape := ⟨3, ![256, 1, 512]⟩
abbrev S256x512 : Shape := ⟨2, ![256, 512]⟩
abbrev S256x1x2 : Shape := ⟨3, ![256, 1, 2]⟩
abbrev S256x2 : Shape := ⟨2, ![256, 2]⟩
abbrev S256x1 : Shape := ⟨2, ![256, 1]⟩
abbrev S10 : Shape := ⟨1, ![10]⟩
abbrev S256x10 : Shape := ⟨2, ![256, 10]⟩
abbrev S256x8 : Shape := ⟨2, ![256, 8]⟩
abbrev S256x256 : Shape := ⟨2, ![256, 256]⟩
abbrev S256x8x1 : Shape := ⟨3, ![256, 8, 1]⟩
abbrev S1 : Shape := ⟨1, ![1]⟩
abbrev S1x1x1 : Shape := ⟨3, ![1, 1, 1]⟩
abbrev S256x8x256 : Shape := ⟨3, ![256, 8, 256]⟩
abbrev S1x768 : Shape := ⟨2, ![1, 768]⟩
abbrev S256x8x512 : Shape := ⟨3, ![256, 8, 512]⟩
abbrev S256x8x768 : Shape := ⟨3, ![256, 8, 768]⟩
abbrev S1x1x768 : Shape := ⟨3, ![1, 1, 768]⟩
abbrev S256x8x2 : Shape := ⟨3, ![256, 8, 2]⟩
abbrev S256x10x32x8 : Shape := ⟨4, ![256, 10, 32, 8]⟩
abbrev S256x10x32 : Shape := ⟨3, ![256, 10, 32]⟩
abbrev S256x32x10 : Shape := ⟨3, ![256, 32, 10]⟩
abbrev S256x32x8 : Shape := ⟨3, ![256, 32, 8]⟩
abbrev S1x256 : Shape := ⟨2, ![1, 256]⟩
abbrev S256x9 : Shape := ⟨2, ![256, 9]⟩
abbrev S256x9x1 : Shape := ⟨3, ![256, 9, 1]⟩
abbrev S256x9x256 : Shape := ⟨3, ![256, 9, 256]⟩
abbrev S1x9 : Shape := ⟨2, ![1, 9]⟩

abbrev nBuf : Space → Nat
  | .hbm => 393
  | .vmem => 0
  | .smem => 0
  | _ => 0

abbrev hbmTy0_0 (i : Nat) : BufTy := match i % 128 with
  | 0 => ⟨S256x20x512, .f32⟩
  | 1 => ⟨S256x20x2, .i32⟩
  | 2 => ⟨S256, .i32⟩
  | 3 => ⟨S768x768, .f32⟩
  | 4 => ⟨S256x768, .f32⟩
  | 5 => ⟨S768, .f32⟩
  | 6 => ⟨S768, .f32⟩
  | 7 => ⟨S768x768, .f32⟩
  | 8 => ⟨S256x768, .f32⟩
  | 9 => ⟨S768, .f32⟩
  | 10 => ⟨S768, .f32⟩
  | 11 => ⟨S512x768, .f32⟩
  | 12 => ⟨S256x768, .f32⟩
  | 13 => ⟨S768, .f32⟩
  | 14 => ⟨S768, .f32⟩
  | 15 => ⟨S512x256, .f32⟩
  | 16 => ⟨S256, .f32⟩
  | 17 => ⟨S9x9, .f32⟩
  | 18 => ⟨S9, .f32⟩
  | 19 => ⟨S_, .f32⟩
  | 20 => ⟨S256x10x256, .f32⟩
  | 21 => ⟨S_, .i32⟩
  | 22 => ⟨S_, .i32⟩
  | 23 => ⟨S256x20x512, .f32⟩
  | 24 => ⟨S256x20x2, .i32⟩
  | 25 => ⟨S768x768, .f32⟩
  | 26 => ⟨S768, .f32⟩
  | 27 => ⟨S256x768, .f32⟩
  | 28 => ⟨S768, .f32⟩
  | 29 => ⟨S768x768, .f32⟩
  | 30 => ⟨S768, .f32⟩
  | 31 => ⟨S256x768, .f32⟩
  | 32 => ⟨S768, .f32⟩
  | 33 => ⟨S512x768, .f32⟩
  | 34 => ⟨S768, .f32⟩
  | 35 => ⟨S256x768, .f32⟩
  | 36 => ⟨S768, .f32⟩
  | 37 => ⟨S_, .i32⟩
  | 38 => ⟨S_, .i32⟩
  | 39 => ⟨S256x10x256, .f32⟩
  | 40 => ⟨S_, .i32⟩
  | 41 => ⟨S_, .i1⟩
  | 42 => ⟨S_, .i32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S256x1x512, .f32⟩
  | 53 => ⟨S256x512, .f32⟩
  | 54 => ⟨S_, .i32⟩
  | 55 => ⟨S_, .i1⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S256x1x2, .i32⟩
  | 63 => ⟨S256x2, .i32⟩
  | 64 => ⟨S256x1, .i32⟩
  | 65 => ⟨S256, .i32⟩
  | 66 => ⟨S256x1, .i32⟩
  | 67 => ⟨S256, .i32⟩
  | 68 => ⟨S256, .i32⟩
  | 69 => ⟨S10, .i32⟩
  | 70 => ⟨S256x10, .i32⟩
  | 71 => ⟨S256x1, .i32⟩
  | 72 => ⟨S256x10, .i32⟩
  | 73 => ⟨S256x10, .i1⟩
  | 74 => ⟨S256x1, .i32⟩
  | 75 => ⟨S256x10, .i32⟩
  | 76 => ⟨S256x10, .i1⟩
  | 77 => ⟨S256x10, .i1⟩
  | 78 => ⟨S_, .i32⟩
  | 79 => ⟨S_, .i32⟩
  | 80 => ⟨S256x10, .i32⟩
  | 81 => ⟨S256x10, .i32⟩
  | 82 => ⟨S256x10, .i32⟩
  | 83 => ⟨S256x8, .i32⟩
  | 84 => ⟨S_, .i32⟩
  | 85 => ⟨S256, .i32⟩
  | 86 => ⟨S256, .i1⟩
  | 87 => ⟨S_, .i32⟩
  | 88 => ⟨S256, .i32⟩
  | 89 => ⟨S256, .i32⟩
  | 90 => ⟨S256, .i32⟩
  | 91 => ⟨S_, .i32⟩
  | 92 => ⟨S256, .i32⟩
  | 93 => ⟨S256, .i1⟩
  | 94 => ⟨S_, .i32⟩
  | 95 => ⟨S256, .i32⟩
  | 96 => ⟨S256, .i32⟩
  | 97 => ⟨S256, .i32⟩
  | 98 => ⟨S256x1, .i32⟩
  | 99 => ⟨S256x1, .i32⟩
  | 100 => ⟨S256x2, .i32⟩
  | 101 => ⟨S256x256, .f32⟩
  | 102 => ⟨S_, .i32⟩
  | 103 => ⟨S256, .i32⟩
  | 104 => ⟨S256, .i1⟩
  | 105 => ⟨S_, .i32⟩
  | 106 => ⟨S256, .i32⟩
  | 107 => ⟨S256, .i32⟩
  | 108 => ⟨S256, .i32⟩
  | 109 => ⟨S_, .i32⟩
  | 110 => ⟨S256, .i32⟩
  | 111 => ⟨S256, .i1⟩
  | 112 => ⟨S_, .i32⟩
  | 113 => ⟨S256, .i32⟩
  | 114 => ⟨S256, .i32⟩
  | 115 => ⟨S256, .i32⟩
  | 116 => ⟨S256x1, .i32⟩
  | 117 => ⟨S256x1, .i32⟩
  | 118 => ⟨S256x2, .i32⟩
  | 119 => ⟨S256x256, .f32⟩
  | 120 => ⟨S256x8x1, .i32⟩
  | 121 => ⟨S_, .i32⟩
  | 122 => ⟨S256x8x1, .i32⟩
  | 123 => ⟨S256x8x1, .i1⟩
  | 124 => ⟨S_, .i32⟩
  | 125 => ⟨S256x8x1, .i32⟩
  | 126 => ⟨S256x8x1, .i32⟩
  | 127 => ⟨S256x8x1, .i32⟩
  | _ => ⟨S256x20x512, .f32⟩

abbrev hbmTy0_1 (i : Nat) : BufTy := match i % 128 with
  | 0 => ⟨S1, .i32⟩
  | 1 => ⟨S_, .i32⟩
  | 2 => ⟨S256x8x1, .i32⟩
  | 3 => ⟨S256x8x1, .i1⟩
  | 4 => ⟨S1x1x1, .i32⟩
  | 5 => ⟨S256x8x1, .i32⟩
  | 6 => ⟨S256x8x1, .i1⟩
  | 7 => ⟨S256x8x1, .i1⟩
  | 8 => ⟨S_, .i1⟩
  | 9 => ⟨S256x8, .i1⟩
  | 10 => ⟨S256x8x256, .f32⟩
  | 11 => ⟨S256x8x256, .i1⟩
  | 12 => ⟨S_, .f32⟩
  | 13 => ⟨S256x8x256, .f32⟩
  | 14 => ⟨S256x8x256, .f32⟩
  | 15 => ⟨S256x768, .f32⟩
  | 16 => ⟨S256x768, .f32⟩
  | 17 => ⟨S1x768, .f32⟩
  | 18 => ⟨S256x768, .f32⟩
  | 19 => ⟨S256x768, .f32⟩
  | 20 => ⟨S256x768, .f32⟩
  | 21 => ⟨S1x768, .f32⟩
  | 22 => ⟨S256x768, .f32⟩
  | 23 => ⟨S256x768, .f32⟩
  | 24 => ⟨S256x256, .f32⟩
  | 25 => ⟨S256x256, .f32⟩
  | 26 => ⟨S256x256, .f32⟩
  | 27 => ⟨S256x256, .f32⟩
  | 28 => ⟨S256x256, .f32⟩
  | 29 => ⟨S256x256, .f32⟩
  | 30 => ⟨S256x256, .f32⟩
  | 31 => ⟨S256x256, .f32⟩
  | 32 => ⟨S256x256, .f32⟩
  | 33 => ⟨S_, .f32⟩
  | 34 => ⟨S256x256, .f32⟩
  | 35 => ⟨S256x256, .f32⟩
  | 36 => ⟨S_, .f32⟩
  | 37 => ⟨S256x256, .f32⟩
  | 38 => ⟨S256x256, .f32⟩
  | 39 => ⟨S256x256, .f32⟩
  | 40 => ⟨S256x256, .f32⟩
  | 41 => ⟨S256x256, .f32⟩
  | 42 => ⟨S_, .f32⟩
  | 43 => ⟨S256x256, .f32⟩
  | 44 => ⟨S256x256, .f32⟩
  | 45 => ⟨S_, .f32⟩
  | 46 => ⟨S256x256, .f32⟩
  | 47 => ⟨S256x256, .f32⟩
  | 48 => ⟨S256x256, .f32⟩
  | 49 => ⟨S256x256, .f32⟩
  | 50 => ⟨S256x256, .f32⟩
  | 51 => ⟨S_, .f32⟩
  | 52 => ⟨S256x256, .f32⟩
  | 53 => ⟨S256x256, .f32⟩
  | 54 => ⟨S256x256, .f32⟩
  | 55 => ⟨S256x256, .f32⟩
  | 56 => ⟨S256x256, .f32⟩
  | 57 => ⟨S_, .i32⟩
  | 58 => ⟨S256, .i32⟩
  | 59 => ⟨S256, .i1⟩
  | 60 => ⟨S_, .i32⟩
  | 61 => ⟨S256, .i32⟩
  | 62 => ⟨S256, .i32⟩
  | 63 => ⟨S256, .i32⟩
  | 64 => ⟨S_, .i32⟩
  | 65 => ⟨S256, .i32⟩
  | 66 => ⟨S256, .i1⟩
  | 67 => ⟨S_, .i32⟩
  | 68 => ⟨S256, .i32⟩
  | 69 => ⟨S256, .i32⟩
  | 70 => ⟨S256, .i32⟩
  | 71 => ⟨S256x1, .i32⟩
  | 72 => ⟨S256x1, .i32⟩
  | 73 => ⟨S256x2, .i32⟩
  | 74 => ⟨S256x10x256, .f32⟩
  | 75 => ⟨S256x768, .f32⟩
  | 76 => ⟨S256x768, .f32⟩
  | 77 => ⟨S1x768, .f32⟩
  | 78 => ⟨S256x768, .f32⟩
  | 79 => ⟨S256x768, .f32⟩
  | 80 => ⟨S256x768, .f32⟩
  | 81 => ⟨S1x768, .f32⟩
  | 82 => ⟨S256x768, .f32⟩
  | 83 => ⟨S256x768, .f32⟩
  | 84 => ⟨S256x256, .f32⟩
  | 85 => ⟨S256x256, .f32⟩
  | 86 => ⟨S256x256, .f32⟩
  | 87 => ⟨S256x256, .f32⟩
  | 88 => ⟨S256x256, .f32⟩
  | 89 => ⟨S256x256, .f32⟩
  | 90 => ⟨S256x256, .f32⟩
  | 91 => ⟨S256x256, .f32⟩
  | 92 => ⟨S256x256, .f32⟩
  | 93 => ⟨S_, .f32⟩
  | 94 => ⟨S256x256, .f32⟩
  | 95 => ⟨S256x256, .f32⟩
  | 96 => ⟨S_, .f32⟩
  | 97 => ⟨S256x256, .f32⟩
  | 98 => ⟨S256x256, .f32⟩
  | 99 => ⟨S256x256, .f32⟩
  | 100 => ⟨S256x256, .f32⟩
  | 101 => ⟨S256x256, .f32⟩
  | 102 => ⟨S_, .f32⟩
  | 103 => ⟨S256x256, .f32⟩
  | 104 => ⟨S256x256, .f32⟩
  | 105 => ⟨S_, .f32⟩
  | 106 => ⟨S256x256, .f32⟩
  | 107 => ⟨S256x256, .f32⟩
  | 108 => ⟨S256x256, .f32⟩
  | 109 => ⟨S256x256, .f32⟩
  | 110 => ⟨S256x256, .f32⟩
  | 111 => ⟨S_, .f32⟩
  | 112 => ⟨S256x256, .f32⟩
  | 113 => ⟨S256x256, .f32⟩
  | 114 => ⟨S256x256, .f32⟩
  | 115 => ⟨S256x256, .f32⟩
  | 116 => ⟨S256x256, .f32⟩
  | 117 => ⟨S_, .i32⟩
  | 118 => ⟨S256, .i32⟩
  | 119 => ⟨S256, .i1⟩
  | 120 => ⟨S_, .i32⟩
  | 121 => ⟨S256, .i32⟩
  | 122 => ⟨S256, .i32⟩
  | 123 => ⟨S256, .i32⟩
  | 124 => ⟨S_, .i32⟩
  | 125 => ⟨S256, .i32⟩
  | 126 => ⟨S256, .i1⟩
  | 127 => ⟨S_, .i32⟩
  | _ => ⟨S256x20x512, .f32⟩

abbrev hbmTy0_2 (i : Nat) : BufTy := match i % 128 with
  | 0 => ⟨S256, .i32⟩
  | 1 => ⟨S256, .i32⟩
  | 2 => ⟨S256, .i32⟩
  | 3 => ⟨S256x1, .i32⟩
  | 4 => ⟨S256x1, .i32⟩
  | 5 => ⟨S256x2, .i32⟩
  | 6 => ⟨S256x10x256, .f32⟩
  | 7 => ⟨S256x1x512, .f32⟩
  | 8 => ⟨S256x8x512, .f32⟩
  | 9 => ⟨S256x8x768, .f32⟩
  | 10 => ⟨S1x1x768, .f32⟩
  | 11 => ⟨S256x8x768, .f32⟩
  | 12 => ⟨S256x8x768, .f32⟩
  | 13 => ⟨S256x8x768, .f32⟩
  | 14 => ⟨S1x1x768, .f32⟩
  | 15 => ⟨S256x8x768, .f32⟩
  | 16 => ⟨S256x8x768, .f32⟩
  | 17 => ⟨S256x8x256, .f32⟩
  | 18 => ⟨S256x8x256, .f32⟩
  | 19 => ⟨S256x8x256, .f32⟩
  | 20 => ⟨S256x8x256, .f32⟩
  | 21 => ⟨S256x8x256, .f32⟩
  | 22 => ⟨S256x8x256, .f32⟩
  | 23 => ⟨S256x8x256, .f32⟩
  | 24 => ⟨S256x8x256, .f32⟩
  | 25 => ⟨S256x8x256, .f32⟩
  | 26 => ⟨S_, .f32⟩
  | 27 => ⟨S256x8x256, .f32⟩
  | 28 => ⟨S256x8x256, .f32⟩
  | 29 => ⟨S_, .f32⟩
  | 30 => ⟨S256x8x256, .f32⟩
  | 31 => ⟨S256x8x256, .f32⟩
  | 32 => ⟨S256x8x256, .f32⟩
  | 33 => ⟨S256x8x256, .f32⟩
  | 34 => ⟨S256x8x256, .f32⟩
  | 35 => ⟨S_, .f32⟩
  | 36 => ⟨S256x8x256, .f32⟩
  | 37 => ⟨S256x8x256, .f32⟩
  | 38 => ⟨S_, .f32⟩
  | 39 => ⟨S256x8x256, .f32⟩
  | 40 => ⟨S256x8x256, .f32⟩
  | 41 => ⟨S256x8x256, .f32⟩
  | 42 => ⟨S256x8x256, .f32⟩
  | 43 => ⟨S256x8x256, .f32⟩
  | 44 => ⟨S_, .f32⟩
  | 45 => ⟨S256x8x256, .f32⟩
  | 46 => ⟨S256x8x256, .f32⟩
  | 47 => ⟨S256x8x256, .f32⟩
  | 48 => ⟨S256x8x256, .f32⟩
  | 49 => ⟨S256x8x256, .f32⟩
  | 50 => ⟨S256x1, .i32⟩
  | 51 => ⟨S_, .i32⟩
  | 52 => ⟨S256x1, .i32⟩
  | 53 => ⟨S256x1, .i1⟩
  | 54 => ⟨S_, .i32⟩
  | 55 => ⟨S256x1, .i32⟩
  | 56 => ⟨S256x1, .i32⟩
  | 57 => ⟨S256x1, .i32⟩
  | 58 => ⟨S_, .i32⟩
  | 59 => ⟨S256x8, .i32⟩
  | 60 => ⟨S256x8, .i1⟩
  | 61 => ⟨S_, .i32⟩
  | 62 => ⟨S256x8, .i32⟩
  | 63 => ⟨S256x8, .i32⟩
  | 64 => ⟨S256x8, .i32⟩
  | 65 => ⟨S256x8, .i32⟩
  | 66 => ⟨S256x8x1, .i32⟩
  | 67 => ⟨S256x8x1, .i32⟩
  | 68 => ⟨S256x8x2, .i32⟩
  | 69 => ⟨S256x10x256, .f32⟩
  | 70 => ⟨S_, .f32⟩
  | 71 => ⟨S256x10x256, .f32⟩
  | 72 => ⟨S256x10x256, .f32⟩
  | 73 => ⟨S_, .i32⟩
  | 74 => ⟨S_, .i32⟩
  | 75 => ⟨S256, .i32⟩
  | 76 => ⟨S256x10x32x8, .f32⟩
  | 77 => ⟨S_, .f32⟩
  | 78 => ⟨S256x10x32, .f32⟩
  | 79 => ⟨S256x32x10, .f32⟩
  | 80 => ⟨S256x32x8, .f32⟩
  | 81 => ⟨S256x32x8, .f32⟩
  | 82 => ⟨S256x32x8, .f32⟩
  | 83 => ⟨S256x32x8, .f32⟩
  | 84 => ⟨S256x32x8, .f32⟩
  | 85 => ⟨S256x256, .f32⟩
  | 86 => ⟨S_, .i32⟩
  | 87 => ⟨S256, .i32⟩
  | 88 => ⟨S256, .i1⟩
  | 89 => ⟨S_, .i32⟩
  | 90 => ⟨S256, .i32⟩
  | 91 => ⟨S256, .i32⟩
  | 92 => ⟨S256, .i32⟩
  | 93 => ⟨S_, .i32⟩
  | 94 => ⟨S256, .i32⟩
  | 95 => ⟨S256, .i1⟩
  | 96 => ⟨S_, .i32⟩
  | 97 => ⟨S256, .i32⟩
  | 98 => ⟨S256, .i32⟩
  | 99 => ⟨S256, .i32⟩
  | 100 => ⟨S256x1, .i32⟩
  | 101 => ⟨S256x1, .i32⟩
  | 102 => ⟨S256x2, .i32⟩
  | 103 => ⟨S256x256, .f32⟩
  | 104 => ⟨S256x256, .f32⟩
  | 105 => ⟨S256x256, .f32⟩
  | 106 => ⟨S256x256, .f32⟩
  | 107 => ⟨S256x256, .f32⟩
  | 108 => ⟨S256x256, .f32⟩
  | 109 => ⟨S1x256, .f32⟩
  | 110 => ⟨S256x256, .f32⟩
  | 111 => ⟨S256x256, .f32⟩
  | 112 => ⟨S256x256, .f32⟩
  | 113 => ⟨S10, .i32⟩
  | 114 => ⟨S256x10, .i32⟩
  | 115 => ⟨S256x1, .i32⟩
  | 116 => ⟨S256x10, .i32⟩
  | 117 => ⟨S256x10, .i1⟩
  | 118 => ⟨S_, .i32⟩
  | 119 => ⟨S256x10, .i32⟩
  | 120 => ⟨S256x10, .i32⟩
  | 121 => ⟨S256x10, .i32⟩
  | 122 => ⟨S256x9, .i32⟩
  | 123 => ⟨S_, .i32⟩
  | 124 => ⟨S256x9, .i32⟩
  | 125 => ⟨S256x9, .i1⟩
  | 126 => ⟨S_, .i32⟩
  | 127 => ⟨S256x9, .i32⟩
  | _ => ⟨S256x20x512, .f32⟩

abbrev hbmTy0_3 (i : Nat) : BufTy := match i % 128 with
  | 0 => ⟨S256x9, .i32⟩
  | 1 => ⟨S256x9, .i32⟩
  | 2 => ⟨S256x9x1, .i32⟩
  | 3 => ⟨S256x9x256, .f32⟩
  | 4 => ⟨S256x9, .f32⟩
  | 5 => ⟨S256x9, .f32⟩
  | 6 => ⟨S1x9, .f32⟩
  | 7 => ⟨S256x9, .f32⟩
  | 8 => ⟨S256x9, .f32⟩
  | _ => ⟨S256x20x512, .f32⟩

abbrev hbmTy (i : Nat) : BufTy := match i / 128 with
  | 0 => hbmTy0_0 i
  | 1 => hbmTy0_1 i
  | 2 => hbmTy0_2 i
  | 3 => hbmTy0_3 i
  | _ => ⟨S256x20x512, .f32⟩

abbrev bufTy : (tb : Table) → Fin (tcTables nBuf tb) → BufTy
  | .hbm, ⟨i, _⟩ => hbmTy i
  | _, _ => ⟨S256x20x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_c : Ref sig .tc := ⟨.hbm, 21, rfl⟩
abbrev main_c_0 : Ref sig .tc := ⟨.hbm, 22, rfl⟩
abbrev main_v1_0 : Ref sig .tc := ⟨.hbm, 23, rfl⟩
abbrev main_v1_1 : Ref sig .tc := ⟨.hbm, 24, rfl⟩
abbrev main_v1_2 : Ref sig .tc := ⟨.hbm, 25, rfl⟩
abbrev main_v1_3 : Ref sig .tc := ⟨.hbm, 26, rfl⟩
abbrev main_v1_4 : Ref sig .tc := ⟨.hbm, 27, rfl⟩
abbrev main_v1_5 : Ref sig .tc := ⟨.hbm, 28, rfl⟩
abbrev main_v1_6 : Ref sig .tc := ⟨.hbm, 29, rfl⟩
abbrev main_v1_7 : Ref sig .tc := ⟨.hbm, 30, rfl⟩
abbrev main_v1_8 : Ref sig .tc := ⟨.hbm, 31, rfl⟩
abbrev main_v1_9 : Ref sig .tc := ⟨.hbm, 32, rfl⟩
abbrev main_v1_10 : Ref sig .tc := ⟨.hbm, 33, rfl⟩
abbrev main_v1_11 : Ref sig .tc := ⟨.hbm, 34, rfl⟩
abbrev main_v1_12 : Ref sig .tc := ⟨.hbm, 35, rfl⟩
abbrev main_v1_13 : Ref sig .tc := ⟨.hbm, 36, rfl⟩
abbrev main_v1_14 : Ref sig .tc := ⟨.hbm, 37, rfl⟩
abbrev main_v1_15 : Ref sig .tc := ⟨.hbm, 38, rfl⟩
abbrev main_v1_16 : Ref sig .tc := ⟨.hbm, 39, rfl⟩
abbrev main_while0c_c_25 : Ref sig .tc := ⟨.hbm, 40, rfl⟩
abbrev main_while0c_v56 : Ref sig .tc := ⟨.hbm, 41, rfl⟩
abbrev main_while0b_c_25 : Ref sig .tc := ⟨.hbm, 42, rfl⟩
abbrev main_while0b_v56 : Ref sig .tc := ⟨.hbm, 43, rfl⟩
abbrev main_while0b_call0_c : Ref sig .tc := ⟨.hbm, 44, rfl⟩
abbrev main_while0b_call0_v0 : Ref sig .tc := ⟨.hbm, 45, rfl⟩
abbrev main_while0b_call0_v1 : Ref sig .tc := ⟨.hbm, 46, rfl⟩
abbrev main_while0b_call0_c_0 : Ref sig .tc := ⟨.hbm, 47, rfl⟩
abbrev main_while0b_call0_v2 : Ref sig .tc := ⟨.hbm, 48, rfl⟩
abbrev main_while0b_call0_v3 : Ref sig .tc := ⟨.hbm, 49, rfl⟩
abbrev main_while0b_call0_c_1 : Ref sig .tc := ⟨.hbm, 50, rfl⟩
abbrev main_while0b_call0_c_2 : Ref sig .tc := ⟨.hbm, 51, rfl⟩
abbrev main_while0b_call0_v4 : Ref sig .tc := ⟨.hbm, 52, rfl⟩
abbrev main_while0b_v57 : Ref sig .tc := ⟨.hbm, 53, rfl⟩
abbrev main_while0b_call1_c : Ref sig .tc := ⟨.hbm, 54, rfl⟩
abbrev main_while0b_call1_v0 : Ref sig .tc := ⟨.hbm, 55, rfl⟩
abbrev main_while0b_call1_v1 : Ref sig .tc := ⟨.hbm, 56, rfl⟩
abbrev main_while0b_call1_c_0 : Ref sig .tc := ⟨.hbm, 57, rfl⟩
abbrev main_while0b_call1_v2 : Ref sig .tc := ⟨.hbm, 58, rfl⟩
abbrev main_while0b_call1_v3 : Ref sig .tc := ⟨.hbm, 59, rfl⟩
abbrev main_while0b_call1_c_1 : Ref sig .tc := ⟨.hbm, 60, rfl⟩
abbrev main_while0b_call1_c_2 : Ref sig .tc := ⟨.hbm, 61, rfl⟩
abbrev main_while0b_call1_v4 : Ref sig .tc := ⟨.hbm, 62, rfl⟩
abbrev main_while0b_v58 : Ref sig .tc := ⟨.hbm, 63, rfl⟩
abbrev main_while0b_v59 : Ref sig .tc := ⟨.hbm, 64, rfl⟩
abbrev main_while0b_v60 : Ref sig .tc := ⟨.hbm, 65, rfl⟩
abbrev main_while0b_v61 : Ref sig .tc := ⟨.hbm, 66, rfl⟩
abbrev main_while0b_v62 : Ref sig .tc := ⟨.hbm, 67, rfl⟩
abbrev main_while0b_v63 : Ref sig .tc := ⟨.hbm, 68, rfl⟩
abbrev main_while0b_v64 : Ref sig .tc := ⟨.hbm, 69, rfl⟩
abbrev main_while0b_v65 : Ref sig .tc := ⟨.hbm, 70, rfl⟩
abbrev main_while0b_v66 : Ref sig .tc := ⟨.hbm, 71, rfl⟩
abbrev main_while0b_v67 : Ref sig .tc := ⟨.hbm, 72, rfl⟩
abbrev main_while0b_v68 : Ref sig .tc := ⟨.hbm, 73, rfl⟩
abbrev main_while0b_v69 : Ref sig .tc := ⟨.hbm, 74, rfl⟩
abbrev main_while0b_v70 : Ref sig .tc := ⟨.hbm, 75, rfl⟩
abbrev main_while0b_v71 : Ref sig .tc := ⟨.hbm, 76, rfl⟩
abbrev main_while0b_v72 : Ref sig .tc := ⟨.hbm, 77, rfl⟩
abbrev main_while0b_c_26 : Ref sig .tc := ⟨.hbm, 78, rfl⟩
abbrev main_while0b_call2_v0 : Ref sig .tc := ⟨.hbm, 79, rfl⟩
abbrev main_while0b_call2_v1 : Ref sig .tc := ⟨.hbm, 80, rfl⟩
abbrev main_while0b_v73 : Ref sig .tc := ⟨.hbm, 81, rfl⟩
abbrev main_while0b_v74 : Ref sig .tc := ⟨.hbm, 82, rfl⟩
abbrev main_while0b_v75 : Ref sig .tc := ⟨.hbm, 83, rfl⟩
abbrev main_while0b_c_27 : Ref sig .tc := ⟨.hbm, 84, rfl⟩
abbrev main_while0b_v76 : Ref sig .tc := ⟨.hbm, 85, rfl⟩
abbrev main_while0b_v77 : Ref sig .tc := ⟨.hbm, 86, rfl⟩
abbrev main_while0b_c_28 : Ref sig .tc := ⟨.hbm, 87, rfl⟩
abbrev main_while0b_v78 : Ref sig .tc := ⟨.hbm, 88, rfl⟩
abbrev main_while0b_v79 : Ref sig .tc := ⟨.hbm, 89, rfl⟩
abbrev main_while0b_v80 : Ref sig .tc := ⟨.hbm, 90, rfl⟩
abbrev main_while0b_c_29 : Ref sig .tc := ⟨.hbm, 91, rfl⟩
abbrev main_while0b_v81 : Ref sig .tc := ⟨.hbm, 92, rfl⟩
abbrev main_while0b_v82 : Ref sig .tc := ⟨.hbm, 93, rfl⟩
abbrev main_while0b_c_30 : Ref sig .tc := ⟨.hbm, 94, rfl⟩
abbrev main_while0b_v83 : Ref sig .tc := ⟨.hbm, 95, rfl⟩
abbrev main_while0b_v84 : Ref sig .tc := ⟨.hbm, 96, rfl⟩
abbrev main_while0b_v85 : Ref sig .tc := ⟨.hbm, 97, rfl⟩
abbrev main_while0b_v86 : Ref sig .tc := ⟨.hbm, 98, rfl⟩
abbrev main_while0b_v87 : Ref sig .tc := ⟨.hbm, 99, rfl⟩
abbrev main_while0b_v88 : Ref sig .tc := ⟨.hbm, 100, rfl⟩
abbrev main_while0b_v89 : Ref sig .tc := ⟨.hbm, 101, rfl⟩
abbrev main_while0b_c_31 : Ref sig .tc := ⟨.hbm, 102, rfl⟩
abbrev main_while0b_v90 : Ref sig .tc := ⟨.hbm, 103, rfl⟩
abbrev main_while0b_v91 : Ref sig .tc := ⟨.hbm, 104, rfl⟩
abbrev main_while0b_c_32 : Ref sig .tc := ⟨.hbm, 105, rfl⟩
abbrev main_while0b_v92 : Ref sig .tc := ⟨.hbm, 106, rfl⟩
abbrev main_while0b_v93 : Ref sig .tc := ⟨.hbm, 107, rfl⟩
abbrev main_while0b_v94 : Ref sig .tc := ⟨.hbm, 108, rfl⟩
abbrev main_while0b_c_33 : Ref sig .tc := ⟨.hbm, 109, rfl⟩
abbrev main_while0b_v95 : Ref sig .tc := ⟨.hbm, 110, rfl⟩
abbrev main_while0b_v96 : Ref sig .tc := ⟨.hbm, 111, rfl⟩
abbrev main_while0b_c_34 : Ref sig .tc := ⟨.hbm, 112, rfl⟩
abbrev main_while0b_v97 : Ref sig .tc := ⟨.hbm, 113, rfl⟩
abbrev main_while0b_v98 : Ref sig .tc := ⟨.hbm, 114, rfl⟩
abbrev main_while0b_v99 : Ref sig .tc := ⟨.hbm, 115, rfl⟩
abbrev main_while0b_v100 : Ref sig .tc := ⟨.hbm, 116, rfl⟩
abbrev main_while0b_v101 : Ref sig .tc := ⟨.hbm, 117, rfl⟩
abbrev main_while0b_v102 : Ref sig .tc := ⟨.hbm, 118, rfl⟩
abbrev main_while0b_v103 : Ref sig .tc := ⟨.hbm, 119, rfl⟩
abbrev main_while0b_v104 : Ref sig .tc := ⟨.hbm, 120, rfl⟩
abbrev main_while0b_call4_c : Ref sig .tc := ⟨.hbm, 121, rfl⟩
abbrev main_while0b_call4_v0 : Ref sig .tc := ⟨.hbm, 122, rfl⟩
abbrev main_while0b_call4_v1 : Ref sig .tc := ⟨.hbm, 123, rfl⟩
abbrev main_while0b_call4_c_0 : Ref sig .tc := ⟨.hbm, 124, rfl⟩
abbrev main_while0b_call4_v2 : Ref sig .tc := ⟨.hbm, 125, rfl⟩
abbrev main_while0b_call4_v3 : Ref sig .tc := ⟨.hbm, 126, rfl⟩
abbrev main_while0b_call4_v4 : Ref sig .tc := ⟨.hbm, 127, rfl⟩
abbrev main_while0b_call4_c_1 : Ref sig .tc := ⟨.hbm, 128, rfl⟩
abbrev main_while0b_call4_c_2 : Ref sig .tc := ⟨.hbm, 129, rfl⟩
abbrev main_while0b_call4_v5 : Ref sig .tc := ⟨.hbm, 130, rfl⟩
abbrev main_while0b_call4_v6 : Ref sig .tc := ⟨.hbm, 131, rfl⟩
abbrev main_while0b_call4_v7 : Ref sig .tc := ⟨.hbm, 132, rfl⟩
abbrev main_while0b_call4_v8 : Ref sig .tc := ⟨.hbm, 133, rfl⟩
abbrev main_while0b_call4_v9 : Ref sig .tc := ⟨.hbm, 134, rfl⟩
abbrev main_while0b_call4_v10 : Ref sig .tc := ⟨.hbm, 135, rfl⟩
abbrev main_while0b_call4_c_3 : Ref sig .tc := ⟨.hbm, 136, rfl⟩
abbrev main_while0b_call4_v11 : Ref sig .tc := ⟨.hbm, 137, rfl⟩
abbrev main_while0b_call4_v12 : Ref sig .tc := ⟨.hbm, 138, rfl⟩
abbrev main_while0b_call4_v13 : Ref sig .tc := ⟨.hbm, 139, rfl⟩
abbrev main_while0b_call4_cst : Ref sig .tc := ⟨.hbm, 140, rfl⟩
abbrev main_while0b_call4_v14 : Ref sig .tc := ⟨.hbm, 141, rfl⟩
abbrev main_while0b_v105 : Ref sig .tc := ⟨.hbm, 142, rfl⟩
abbrev main_while0b_v106 : Ref sig .tc := ⟨.hbm, 143, rfl⟩
abbrev main_while0b_v107 : Ref sig .tc := ⟨.hbm, 144, rfl⟩
abbrev main_while0b_v108 : Ref sig .tc := ⟨.hbm, 145, rfl⟩
abbrev main_while0b_v109 : Ref sig .tc := ⟨.hbm, 146, rfl⟩
abbrev main_while0b_v110 : Ref sig .tc := ⟨.hbm, 147, rfl⟩
abbrev main_while0b_v111 : Ref sig .tc := ⟨.hbm, 148, rfl⟩
abbrev main_while0b_v112 : Ref sig .tc := ⟨.hbm, 149, rfl⟩
abbrev main_while0b_v113 : Ref sig .tc := ⟨.hbm, 150, rfl⟩
abbrev main_while0b_v114 : Ref sig .tc := ⟨.hbm, 151, rfl⟩
abbrev main_while0b_v115 : Ref sig .tc := ⟨.hbm, 152, rfl⟩
abbrev main_while0b_v116 : Ref sig .tc := ⟨.hbm, 153, rfl⟩
abbrev main_while0b_v117 : Ref sig .tc := ⟨.hbm, 154, rfl⟩
abbrev main_while0b_v118 : Ref sig .tc := ⟨.hbm, 155, rfl⟩
abbrev main_while0b_v119 : Ref sig .tc := ⟨.hbm, 156, rfl⟩
abbrev main_while0b_v120 : Ref sig .tc := ⟨.hbm, 157, rfl⟩
abbrev main_while0b_v121 : Ref sig .tc := ⟨.hbm, 158, rfl⟩
abbrev main_while0b_v122 : Ref sig .tc := ⟨.hbm, 159, rfl⟩
abbrev main_while0b_v123 : Ref sig .tc := ⟨.hbm, 160, rfl⟩
abbrev main_while0b_cst_35 : Ref sig .tc := ⟨.hbm, 161, rfl⟩
abbrev main_while0b_v124 : Ref sig .tc := ⟨.hbm, 162, rfl⟩
abbrev main_while0b_v125 : Ref sig .tc := ⟨.hbm, 163, rfl⟩
abbrev main_while0b_cst_36 : Ref sig .tc := ⟨.hbm, 164, rfl⟩
abbrev main_while0b_v126 : Ref sig .tc := ⟨.hbm, 165, rfl⟩
abbrev main_while0b_v127 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_cst_37 : Ref sig .tc := ⟨.hbm, 170, rfl⟩
abbrev main_while0b_v131 : Ref sig .tc := ⟨.hbm, 171, rfl⟩
abbrev main_while0b_v132 : Ref sig .tc := ⟨.hbm, 172, rfl⟩
abbrev main_while0b_cst_38 : Ref sig .tc := ⟨.hbm, 173, rfl⟩
abbrev main_while0b_v133 : Ref sig .tc := ⟨.hbm, 174, rfl⟩
abbrev main_while0b_v134 : Ref sig .tc := ⟨.hbm, 175, rfl⟩
abbrev main_while0b_v135 : Ref sig .tc := ⟨.hbm, 176, rfl⟩
abbrev main_while0b_v136 : Ref sig .tc := ⟨.hbm, 177, rfl⟩
abbrev main_while0b_v137 : Ref sig .tc := ⟨.hbm, 178, rfl⟩
abbrev main_while0b_cst_39 : Ref sig .tc := ⟨.hbm, 179, rfl⟩
abbrev main_while0b_v138 : Ref sig .tc := ⟨.hbm, 180, rfl⟩
abbrev main_while0b_v139 : Ref sig .tc := ⟨.hbm, 181, rfl⟩
abbrev main_while0b_v140 : Ref sig .tc := ⟨.hbm, 182, rfl⟩
abbrev main_while0b_v141 : Ref sig .tc := ⟨.hbm, 183, rfl⟩
abbrev main_while0b_v142 : Ref sig .tc := ⟨.hbm, 184, rfl⟩
abbrev main_while0b_c_40 : Ref sig .tc := ⟨.hbm, 185, rfl⟩
abbrev main_while0b_v143 : Ref sig .tc := ⟨.hbm, 186, rfl⟩
abbrev main_while0b_v144 : Ref sig .tc := ⟨.hbm, 187, rfl⟩
abbrev main_while0b_c_41 : Ref sig .tc := ⟨.hbm, 188, rfl⟩
abbrev main_while0b_v145 : Ref sig .tc := ⟨.hbm, 189, rfl⟩
abbrev main_while0b_v146 : Ref sig .tc := ⟨.hbm, 190, rfl⟩
abbrev main_while0b_v147 : Ref sig .tc := ⟨.hbm, 191, rfl⟩
abbrev main_while0b_c_42 : Ref sig .tc := ⟨.hbm, 192, rfl⟩
abbrev main_while0b_v148 : Ref sig .tc := ⟨.hbm, 193, rfl⟩
abbrev main_while0b_v149 : Ref sig .tc := ⟨.hbm, 194, rfl⟩
abbrev main_while0b_c_43 : Ref sig .tc := ⟨.hbm, 195, rfl⟩
abbrev main_while0b_v150 : Ref sig .tc := ⟨.hbm, 196, rfl⟩
abbrev main_while0b_v151 : Ref sig .tc := ⟨.hbm, 197, rfl⟩
abbrev main_while0b_v152 : Ref sig .tc := ⟨.hbm, 198, rfl⟩
abbrev main_while0b_v153 : Ref sig .tc := ⟨.hbm, 199, rfl⟩
abbrev main_while0b_v154 : Ref sig .tc := ⟨.hbm, 200, rfl⟩
abbrev main_while0b_v155 : Ref sig .tc := ⟨.hbm, 201, rfl⟩
abbrev main_while0b_v156 : Ref sig .tc := ⟨.hbm, 202, rfl⟩
abbrev main_while0b_v157 : Ref sig .tc := ⟨.hbm, 203, rfl⟩
abbrev main_while0b_v158 : Ref sig .tc := ⟨.hbm, 204, rfl⟩
abbrev main_while0b_v159 : Ref sig .tc := ⟨.hbm, 205, rfl⟩
abbrev main_while0b_v160 : Ref sig .tc := ⟨.hbm, 206, rfl⟩
abbrev main_while0b_v161 : Ref sig .tc := ⟨.hbm, 207, rfl⟩
abbrev main_while0b_v162 : Ref sig .tc := ⟨.hbm, 208, rfl⟩
abbrev main_while0b_v163 : Ref sig .tc := ⟨.hbm, 209, rfl⟩
abbrev main_while0b_v164 : Ref sig .tc := ⟨.hbm, 210, rfl⟩
abbrev main_while0b_v165 : Ref sig .tc := ⟨.hbm, 211, rfl⟩
abbrev main_while0b_v166 : Ref sig .tc := ⟨.hbm, 212, rfl⟩
abbrev main_while0b_v167 : Ref sig .tc := ⟨.hbm, 213, rfl⟩
abbrev main_while0b_v168 : Ref sig .tc := ⟨.hbm, 214, rfl⟩
abbrev main_while0b_v169 : Ref sig .tc := ⟨.hbm, 215, rfl⟩
abbrev main_while0b_v170 : Ref sig .tc := ⟨.hbm, 216, rfl⟩
abbrev main_while0b_v171 : Ref sig .tc := ⟨.hbm, 217, rfl⟩
abbrev main_while0b_v172 : Ref sig .tc := ⟨.hbm, 218, rfl⟩
abbrev main_while0b_v173 : Ref sig .tc := ⟨.hbm, 219, rfl⟩
abbrev main_while0b_v174 : Ref sig .tc := ⟨.hbm, 220, rfl⟩
abbrev main_while0b_cst_44 : Ref sig .tc := ⟨.hbm, 221, rfl⟩
abbrev main_while0b_v175 : Ref sig .tc := ⟨.hbm, 222, rfl⟩
abbrev main_while0b_v176 : Ref sig .tc := ⟨.hbm, 223, rfl⟩
abbrev main_while0b_cst_45 : Ref sig .tc := ⟨.hbm, 224, rfl⟩
abbrev main_while0b_v177 : Ref sig .tc := ⟨.hbm, 225, rfl⟩
abbrev main_while0b_v178 : Ref sig .tc := ⟨.hbm, 226, rfl⟩
abbrev main_while0b_v179 : Ref sig .tc := ⟨.hbm, 227, rfl⟩
abbrev main_while0b_v180 : Ref sig .tc := ⟨.hbm, 228, rfl⟩
abbrev main_while0b_v181 : Ref sig .tc := ⟨.hbm, 229, rfl⟩
abbrev main_while0b_cst_46 : Ref sig .tc := ⟨.hbm, 230, rfl⟩
abbrev main_while0b_v182 : Ref sig .tc := ⟨.hbm, 231, rfl⟩
abbrev main_while0b_v183 : Ref sig .tc := ⟨.hbm, 232, rfl⟩
abbrev main_while0b_cst_47 : Ref sig .tc := ⟨.hbm, 233, rfl⟩
abbrev main_while0b_v184 : Ref sig .tc := ⟨.hbm, 234, rfl⟩
abbrev main_while0b_v185 : Ref sig .tc := ⟨.hbm, 235, rfl⟩
abbrev main_while0b_v186 : Ref sig .tc := ⟨.hbm, 236, rfl⟩
abbrev main_while0b_v187 : Ref sig .tc := ⟨.hbm, 237, rfl⟩
abbrev main_while0b_v188 : Ref sig .tc := ⟨.hbm, 238, rfl⟩
abbrev main_while0b_cst_48 : Ref sig .tc := ⟨.hbm, 239, rfl⟩
abbrev main_while0b_v189 : Ref sig .tc := ⟨.hbm, 240, rfl⟩
abbrev main_while0b_v190 : Ref sig .tc := ⟨.hbm, 241, rfl⟩
abbrev main_while0b_v191 : Ref sig .tc := ⟨.hbm, 242, rfl⟩
abbrev main_while0b_v192 : Ref sig .tc := ⟨.hbm, 243, rfl⟩
abbrev main_while0b_v193 : Ref sig .tc := ⟨.hbm, 244, rfl⟩
abbrev main_while0b_c_49 : Ref sig .tc := ⟨.hbm, 245, rfl⟩
abbrev main_while0b_v194 : Ref sig .tc := ⟨.hbm, 246, rfl⟩
abbrev main_while0b_v195 : Ref sig .tc := ⟨.hbm, 247, rfl⟩
abbrev main_while0b_c_50 : Ref sig .tc := ⟨.hbm, 248, rfl⟩
abbrev main_while0b_v196 : Ref sig .tc := ⟨.hbm, 249, rfl⟩
abbrev main_while0b_v197 : Ref sig .tc := ⟨.hbm, 250, rfl⟩
abbrev main_while0b_v198 : Ref sig .tc := ⟨.hbm, 251, rfl⟩
abbrev main_while0b_c_51 : Ref sig .tc := ⟨.hbm, 252, rfl⟩
abbrev main_while0b_v199 : Ref sig .tc := ⟨.hbm, 253, rfl⟩
abbrev main_while0b_v200 : Ref sig .tc := ⟨.hbm, 254, rfl⟩
abbrev main_while0b_c_52 : Ref sig .tc := ⟨.hbm, 255, rfl⟩
abbrev main_while0b_v201 : Ref sig .tc := ⟨.hbm, 256, rfl⟩
abbrev main_while0b_v202 : Ref sig .tc := ⟨.hbm, 257, rfl⟩
abbrev main_while0b_v203 : Ref sig .tc := ⟨.hbm, 258, rfl⟩
abbrev main_while0b_v204 : Ref sig .tc := ⟨.hbm, 259, rfl⟩
abbrev main_while0b_v205 : Ref sig .tc := ⟨.hbm, 260, rfl⟩
abbrev main_while0b_v206 : Ref sig .tc := ⟨.hbm, 261, rfl⟩
abbrev main_while0b_v207 : Ref sig .tc := ⟨.hbm, 262, rfl⟩
abbrev main_while0b_v208 : Ref sig .tc := ⟨.hbm, 263, rfl⟩
abbrev main_while0b_v209 : Ref sig .tc := ⟨.hbm, 264, rfl⟩
abbrev main_while0b_v210 : Ref sig .tc := ⟨.hbm, 265, rfl⟩
abbrev main_while0b_v211 : Ref sig .tc := ⟨.hbm, 266, rfl⟩
abbrev main_while0b_v212 : Ref sig .tc := ⟨.hbm, 267, rfl⟩
abbrev main_while0b_v213 : Ref sig .tc := ⟨.hbm, 268, rfl⟩
abbrev main_while0b_v214 : Ref sig .tc := ⟨.hbm, 269, rfl⟩
abbrev main_while0b_v215 : Ref sig .tc := ⟨.hbm, 270, rfl⟩
abbrev main_while0b_v216 : Ref sig .tc := ⟨.hbm, 271, rfl⟩
abbrev main_while0b_v217 : Ref sig .tc := ⟨.hbm, 272, rfl⟩
abbrev main_while0b_v218 : Ref sig .tc := ⟨.hbm, 273, rfl⟩
abbrev main_while0b_v219 : Ref sig .tc := ⟨.hbm, 274, rfl⟩
abbrev main_while0b_v220 : Ref sig .tc := ⟨.hbm, 275, rfl⟩
abbrev main_while0b_v221 : Ref sig .tc := ⟨.hbm, 276, rfl⟩
abbrev main_while0b_v222 : Ref sig .tc := ⟨.hbm, 277, rfl⟩
abbrev main_while0b_v223 : Ref sig .tc := ⟨.hbm, 278, rfl⟩
abbrev main_while0b_v224 : Ref sig .tc := ⟨.hbm, 279, rfl⟩
abbrev main_while0b_v225 : Ref sig .tc := ⟨.hbm, 280, rfl⟩
abbrev main_while0b_v226 : Ref sig .tc := ⟨.hbm, 281, rfl⟩
abbrev main_while0b_cst_53 : Ref sig .tc := ⟨.hbm, 282, rfl⟩
abbrev main_while0b_v227 : Ref sig .tc := ⟨.hbm, 283, rfl⟩
abbrev main_while0b_v228 : Ref sig .tc := ⟨.hbm, 284, rfl⟩
abbrev main_while0b_cst_54 : Ref sig .tc := ⟨.hbm, 285, rfl⟩
abbrev main_while0b_v229 : Ref sig .tc := ⟨.hbm, 286, rfl⟩
abbrev main_while0b_v230 : Ref sig .tc := ⟨.hbm, 287, rfl⟩
abbrev main_while0b_v231 : Ref sig .tc := ⟨.hbm, 288, rfl⟩
abbrev main_while0b_v232 : Ref sig .tc := ⟨.hbm, 289, rfl⟩
abbrev main_while0b_v233 : Ref sig .tc := ⟨.hbm, 290, rfl⟩
abbrev main_while0b_cst_55 : Ref sig .tc := ⟨.hbm, 291, rfl⟩
abbrev main_while0b_v234 : Ref sig .tc := ⟨.hbm, 292, rfl⟩
abbrev main_while0b_v235 : Ref sig .tc := ⟨.hbm, 293, rfl⟩
abbrev main_while0b_cst_56 : Ref sig .tc := ⟨.hbm, 294, rfl⟩
abbrev main_while0b_v236 : Ref sig .tc := ⟨.hbm, 295, rfl⟩
abbrev main_while0b_v237 : Ref sig .tc := ⟨.hbm, 296, rfl⟩
abbrev main_while0b_v238 : Ref sig .tc := ⟨.hbm, 297, rfl⟩
abbrev main_while0b_v239 : Ref sig .tc := ⟨.hbm, 298, rfl⟩
abbrev main_while0b_v240 : Ref sig .tc := ⟨.hbm, 299, rfl⟩
abbrev main_while0b_cst_57 : Ref sig .tc := ⟨.hbm, 300, rfl⟩
abbrev main_while0b_v241 : Ref sig .tc := ⟨.hbm, 301, rfl⟩
abbrev main_while0b_v242 : Ref sig .tc := ⟨.hbm, 302, rfl⟩
abbrev main_while0b_v243 : Ref sig .tc := ⟨.hbm, 303, rfl⟩
abbrev main_while0b_v244 : Ref sig .tc := ⟨.hbm, 304, rfl⟩
abbrev main_while0b_v245 : Ref sig .tc := ⟨.hbm, 305, rfl⟩
abbrev main_while0b_v246 : Ref sig .tc := ⟨.hbm, 306, rfl⟩
abbrev main_while0b_c_58 : Ref sig .tc := ⟨.hbm, 307, rfl⟩
abbrev main_while0b_v247 : Ref sig .tc := ⟨.hbm, 308, rfl⟩
abbrev main_while0b_v248 : Ref sig .tc := ⟨.hbm, 309, rfl⟩
abbrev main_while0b_c_59 : Ref sig .tc := ⟨.hbm, 310, rfl⟩
abbrev main_while0b_v249 : Ref sig .tc := ⟨.hbm, 311, rfl⟩
abbrev main_while0b_v250 : Ref sig .tc := ⟨.hbm, 312, rfl⟩
abbrev main_while0b_v251 : Ref sig .tc := ⟨.hbm, 313, rfl⟩
abbrev main_while0b_c_60 : Ref sig .tc := ⟨.hbm, 314, rfl⟩
abbrev main_while0b_v252 : Ref sig .tc := ⟨.hbm, 315, rfl⟩
abbrev main_while0b_v253 : Ref sig .tc := ⟨.hbm, 316, rfl⟩
abbrev main_while0b_c_61 : Ref sig .tc := ⟨.hbm, 317, rfl⟩
abbrev main_while0b_v254 : Ref sig .tc := ⟨.hbm, 318, rfl⟩
abbrev main_while0b_v255 : Ref sig .tc := ⟨.hbm, 319, rfl⟩
abbrev main_while0b_v256 : Ref sig .tc := ⟨.hbm, 320, rfl⟩
abbrev main_while0b_v257 : Ref sig .tc := ⟨.hbm, 321, rfl⟩
abbrev main_while0b_v258 : Ref sig .tc := ⟨.hbm, 322, rfl⟩
abbrev main_while0b_v259 : Ref sig .tc := ⟨.hbm, 323, rfl⟩
abbrev main_while0b_v260 : Ref sig .tc := ⟨.hbm, 324, rfl⟩
abbrev main_while0b_v261 : Ref sig .tc := ⟨.hbm, 325, rfl⟩
abbrev main_while0b_cst_62 : Ref sig .tc := ⟨.hbm, 326, rfl⟩
abbrev main_while0b_v262 : Ref sig .tc := ⟨.hbm, 327, rfl⟩
abbrev main_while0b_v263 : Ref sig .tc := ⟨.hbm, 328, rfl⟩
abbrev main_while0b_c_63 : Ref sig .tc := ⟨.hbm, 329, rfl⟩
abbrev main_while0b_v264 : Ref sig .tc := ⟨.hbm, 330, rfl⟩
abbrev main_v2 : Ref sig .tc := ⟨.hbm, 331, rfl⟩
abbrev main_v3 : Ref sig .tc := ⟨.hbm, 332, rfl⟩
abbrev main_cst_1 : Ref sig .tc := ⟨.hbm, 333, rfl⟩
abbrev main_v4 : Ref sig .tc := ⟨.hbm, 334, rfl⟩
abbrev main_v5 : Ref sig .tc := ⟨.hbm, 335, rfl⟩
abbrev main_v6 : Ref sig .tc := ⟨.hbm, 336, rfl⟩
abbrev main_v7 : Ref sig .tc := ⟨.hbm, 337, rfl⟩
abbrev main_v8 : Ref sig .tc := ⟨.hbm, 338, rfl⟩
abbrev main_v9 : Ref sig .tc := ⟨.hbm, 339, rfl⟩
abbrev main_v10 : Ref sig .tc := ⟨.hbm, 340, rfl⟩
abbrev main_v11 : Ref sig .tc := ⟨.hbm, 341, rfl⟩
abbrev main_c_2 : Ref sig .tc := ⟨.hbm, 342, rfl⟩
abbrev main_v12 : Ref sig .tc := ⟨.hbm, 343, rfl⟩
abbrev main_v13 : Ref sig .tc := ⟨.hbm, 344, rfl⟩
abbrev main_c_3 : Ref sig .tc := ⟨.hbm, 345, rfl⟩
abbrev main_v14 : Ref sig .tc := ⟨.hbm, 346, rfl⟩
abbrev main_v15 : Ref sig .tc := ⟨.hbm, 347, rfl⟩
abbrev main_v16 : Ref sig .tc := ⟨.hbm, 348, rfl⟩
abbrev main_c_4 : Ref sig .tc := ⟨.hbm, 349, rfl⟩
abbrev main_v17 : Ref sig .tc := ⟨.hbm, 350, rfl⟩
abbrev main_v18 : Ref sig .tc := ⟨.hbm, 351, rfl⟩
abbrev main_c_5 : Ref sig .tc := ⟨.hbm, 352, rfl⟩
abbrev main_v19 : Ref sig .tc := ⟨.hbm, 353, rfl⟩
abbrev main_v20 : Ref sig .tc := ⟨.hbm, 354, rfl⟩
abbrev main_v21 : Ref sig .tc := ⟨.hbm, 355, rfl⟩
abbrev main_v22 : Ref sig .tc := ⟨.hbm, 356, rfl⟩
abbrev main_v23 : Ref sig .tc := ⟨.hbm, 357, rfl⟩
abbrev main_v24 : Ref sig .tc := ⟨.hbm, 358, rfl⟩
abbrev main_v25 : Ref sig .tc := ⟨.hbm, 359, rfl⟩
abbrev main_v26 : Ref sig .tc := ⟨.hbm, 360, rfl⟩
abbrev main_v27 : Ref sig .tc := ⟨.hbm, 361, rfl⟩
abbrev main_v28 : Ref sig .tc := ⟨.hbm, 362, rfl⟩
abbrev main_v29 : Ref sig .tc := ⟨.hbm, 363, rfl⟩
abbrev main_v30 : Ref sig .tc := ⟨.hbm, 364, rfl⟩
abbrev main_v31 : Ref sig .tc := ⟨.hbm, 365, rfl⟩
abbrev main_v32 : Ref sig .tc := ⟨.hbm, 366, rfl⟩
abbrev main_v33 : Ref sig .tc := ⟨.hbm, 367, rfl⟩
abbrev main_v34 : Ref sig .tc := ⟨.hbm, 368, rfl⟩
abbrev main_v35 : Ref sig .tc := ⟨.hbm, 369, rfl⟩
abbrev main_v36 : Ref sig .tc := ⟨.hbm, 370, rfl⟩
abbrev main_v37 : Ref sig .tc := ⟨.hbm, 371, rfl⟩
abbrev main_v38 : Ref sig .tc := ⟨.hbm, 372, rfl⟩
abbrev main_v39 : Ref sig .tc := ⟨.hbm, 373, rfl⟩
abbrev main_c_6 : Ref sig .tc := ⟨.hbm, 374, rfl⟩
abbrev main_v40 : Ref sig .tc := ⟨.hbm, 375, rfl⟩
abbrev main_v41 : Ref sig .tc := ⟨.hbm, 376, rfl⟩
abbrev main_v42 : Ref sig .tc := ⟨.hbm, 377, rfl⟩
abbrev main_v43 : Ref sig .tc := ⟨.hbm, 378, rfl⟩
abbrev main_c_7 : Ref sig .tc := ⟨.hbm, 379, rfl⟩
abbrev main_v44 : Ref sig .tc := ⟨.hbm, 380, rfl⟩
abbrev main_v45 : Ref sig .tc := ⟨.hbm, 381, rfl⟩
abbrev main_c_8 : Ref sig .tc := ⟨.hbm, 382, rfl⟩
abbrev main_v46 : Ref sig .tc := ⟨.hbm, 383, rfl⟩
abbrev main_v47 : Ref sig .tc := ⟨.hbm, 384, rfl⟩
abbrev main_v48 : Ref sig .tc := ⟨.hbm, 385, rfl⟩
abbrev main_v49 : Ref sig .tc := ⟨.hbm, 386, rfl⟩
abbrev main_v50 : Ref sig .tc := ⟨.hbm, 387, rfl⟩
abbrev main_v51 : Ref sig .tc := ⟨.hbm, 388, rfl⟩
abbrev main_v52 : Ref sig .tc := ⟨.hbm, 389, rfl⟩
abbrev main_v53 : Ref sig .tc := ⟨.hbm, 390, rfl⟩
abbrev main_v54 : Ref sig .tc := ⟨.hbm, 391, rfl⟩
abbrev main_v55 : Ref sig .tc := ⟨.hbm, 392, rfl⟩

abbrev nD : Nat := 1
abbrev τ : Topo := Topo.v7x

variable {F : FTy → Type} [FloatOps F]

abbrev main_while0_count : Scf.Loop 32 := ⟨0#32, 20#32, 1#32⟩
-- ==== Proof.Spec.lean ====
/-
  What both programs compute, for ONE batch row, over the extended reals.

  A row carries a memory of ten roles, 256 features each. An utterance is an encoding (512 features), the role that
  speaks and the role it is addressed to; it puts each role's features through one of three GRU cells (speaker, addressee,
  everybody else). After the last utterance a selection head scores the nine roles that are not the responder.
-/
module

public import Idealize.ShloMosaic.Lib.Pointwise

@[expose] public section

noncomputable section

namespace Cert.Proof.Spec

open Idealize.ShloMosaic

/-- The features of the ten roles of one batch row. -/
abbrev Mem := Fin 10 → Fin 256 → EReal

/-- A vector times a matrix. -/
def lin {K N : ℕ} (x : Fin K → EReal) (M : Fin K → Fin N → EReal) (c : Fin N) : EReal := ∑ k, x k * M k c

/-- One feature of a GRU cell, of its input gates, its hidden gates (each: reset, update, candidate) and its state. -/
def gru (gi gh : Fin 768 → EReal) (h : EReal) (c : Fin 256) : EReal :=
  (1 - Ideal.logistic (gi ⟨256 + c.val, by omega⟩ + gh ⟨256 + c.val, by omega⟩))
      * Ideal.tanh (gi ⟨512 + c.val, by omega⟩
          + Ideal.logistic (gi ⟨c.val, by omega⟩ + gh ⟨c.val, by omega⟩) * gh ⟨512 + c.val, by omega⟩)
    + Ideal.logistic (gi ⟨256 + c.val, by omega⟩ + gh ⟨256 + c.val, by omega⟩) * h

/-- The weights of the three cells. -/
structure Weights where
  /-- Speaker: input weights (512 rows for the encoding, 256 for the addressee's features) and hidden weights. -/
  ihS : Fin 768 → Fin 768 → EReal
  hhS : Fin 256 → Fin 768 → EReal
  /-- Addressee: input weights (512 rows for the encoding, 256 for the speaker's features) and hidden weights. -/
  ihA : Fin 768 → Fin 768 → EReal
  hhA : Fin 256 → Fin 768 → EReal
  /-- The others: input and hidden weights. -/
  ihO : Fin 512 → Fin 768 → EReal
  hhO : Fin 256 → Fin 768 → EReal

/-- The input gates of the speaker or the addressee: the encoding against the first 512 rows of the weights, the other
    party's features against the last 256. -/
def inGates (M : Fin 768 → Fin 768 → EReal) (e : Fin 512 → EReal) (y : Fin 256 → EReal) (c : Fin 768) : EReal :=
  (∑ k : Fin 512, e k * M ⟨k.val, by omega⟩ c) + ∑ k : Fin 256, y k * M ⟨512 + k.val, by omega⟩ c

/-- The speaker's new features. -/
def newS (W : Weights) (e : Fin 512 → EReal) (xs xa : Fin 256 → EReal) (d : Fin 256) : EReal :=
  gru (inGates W.ihS e xa) (lin xs W.hhS) (xs d) d

/-- The addressee's new features. -/
def newA (W : Weights) (e : Fin 512 → EReal) (xs xa : Fin 256 → EReal) (d : Fin 256) : EReal :=
  gru (inGates W.ihA e xs) (lin xa W.hhA) (xa d) d

/-- Any other role's new features. -/
def newO (W : Weights) (e : Fin 512 → EReal) (x : Fin 256 → EReal) (d : Fin 256) : EReal :=
  gru (lin e W.ihO) (lin x W.hhO) (x d) d

/-- One utterance, spoken by role `s` to role `a`. -/
def step (W : Weights) (e : Fin 512 → EReal) (s a : Fin 10) (A : Mem) : Mem := fun r d =>
  if r = s then newS W e (A s) (A a) d else if r = a then newA W e (A s) (A a) d else newO W e (A r) d

/-- The memory after `n` utterances, from an empty one. -/
def run (W : Weights) (e : ℕ → Fin 512 → EReal) (s a : ℕ → Fin 10) : ℕ → Mem
  | 0 => fun _ _ => 0
  | n + 1 => step W (e n) (s n) (a n) (run W e s a n)

/-- Group `m` of role `r`'s features (eight of them), its largest. -/
def pool (A : Mem) (r : Fin 10) (m : Fin 32) : EReal :=
  Finset.univ.fold max ⊥ fun l : Fin 8 => A r ⟨m.val * 8 + l.val, by omega⟩

/-- The context features: group `m` over the roles `j`, `j + 1`, `j + 2`. -/
def ctx (A : Mem) (m : Fin 32) (j : Fin 8) : EReal :=
  max (max (pool A ⟨j.val, by omega⟩ m) (pool A ⟨j.val + 1, by omega⟩ m)) (pool A ⟨j.val + 2, by omega⟩ m)

/-- The query the responder's features and the context give, by the first layer's weights (256 rows each). -/
def query (M : Fin 512 → Fin 256 → EReal) (p : Fin 10) (A : Mem) (d : Fin 256) : EReal :=
  Ideal.tanh ((∑ k : Fin 256, A p k * M ⟨k.val, by omega⟩ d)
    + ∑ m : Fin 32, ∑ j : Fin 8, ctx A m j * M ⟨256 + (m.val * 8 + j.val), by omega⟩ d)

/-- The `j`-th role that is not `p`. -/
def other (p : Fin 10) (j : Fin 9) : Fin 10 := if j.val < p.val then ⟨j.val, by omega⟩ else ⟨j.val + 1, by omega⟩

/-- The scores: every role but the responder against the query, through the second layer. -/
def head (M : Fin 512 → Fin 256 → EReal) (N : Fin 9 → Fin 9 → EReal) (p : Fin 10) (A : Mem) (n : Fin 9) : EReal :=
  ∑ j : Fin 9, (∑ d : Fin 256, A (other p j) d * query M p A d) * N j n

end Cert.Proof.Spec

end
-- ==== Proof.Model.lean ====
/-
  The arguments of the kernel and of the reference as the quantities of the specification: the weights, a batch row's utterances,
  and what the user and responder words say.
-/
module

public import proofs.«01_k».proof.Proof.Spec

@[expose] public section

noncomputable section

namespace Cert.Proof.Model

open Idealize.ShloMosaic Idealize.ShloMosaic.Tactic

/-- A matrix by its row and column. -/
def mat {M N : ℕ} (x : (⟨2, ![M, N]⟩ : Shape).Idx → EReal) (k : Fin M) (n : Fin N) : EReal := x (ix2 k n)

/-- The encoding of utterance `i` of batch row `b`. -/
def utter (enc : (⟨3, ![256, 20, 512]⟩ : Shape).Idx → EReal) (b : Fin 256) (i : ℕ) (k : Fin 512) : EReal :=
  if h : i < 20 then enc (ix3 b ⟨i, h⟩ k) else 0

theorem utter_of (enc : (⟨3, ![256, 20, 512]⟩ : Shape).Idx → EReal) (b : Fin 256) (i : Fin 20) (k : Fin 512) :
    utter enc b i.val k = enc (ix3 b i k) := dif_pos i.isLt

/-- The user words of batch row `b` name the speakers `s` and the addressees `a`, two roles at every utterance. -/
structure Names (users : (⟨3, ![256, 20, 2]⟩ : Shape).Idx → BitVec 32) (b : Fin 256) (s a : ℕ → Fin 10) : Prop where
  spk : ∀ i : Fin 20, users (ix3 b i 0) = BitVec.ofNat 32 (s i.val).val
  adr : ∀ i : Fin 20, users (ix3 b i 1) = BitVec.ofNat 32 (a i.val).val
  ne : ∀ i : Fin 20, s i.val ≠ a i.val

/-- Two roles' words agree only on one role. -/
theorem word_eq (x y : Fin 10) : BitVec.ofNat 32 x.val = BitVec.ofNat 32 y.val ↔ y = x := by
  revert x y; decide

/-- Comparing two words as signed numbers compares a candidate with a role. -/
theorem word_lt (x : Fin 9) (y : Fin 10) : (BitVec.ofNat 32 x.val).slt (BitVec.ofNat 32 y.val) = true ↔ x.val < y.val := by
  revert x y; decide

end Cert.Proof.Model

end
-- ==== Proof.KPay.lean ====
/-
  The kernel's vectors for one utterance, each read at an index. An utterance is computed twice in the body (two per grid
  point), by two printings of the same lines; both printings have the same readings here.

  The memory is held flat: role `r` of batch row `b` is row `r * 256 + b`. It is updated in five chunks of two roles.
-/
module

public import proofs.«01_k».proof.Proof.Gen.KernelIdeal.Skeleton
public import proofs.«01_k».proof.Proof.Gen.KernelIdeal
public import proofs.«01_k».proof.Proof.Spec
public import Idealize.ShloMosaic.Lib.Pointwise

@[expose] public section

set_option maxRecDepth 16384

noncomputable section

namespace Cert.Proof.KPay

open Idealize.ShloMosaic Cert.KernelIdeal Cert.KernelIdeal.Gen

/-- The blend of the three cells' results by the two marks of a role: is it the speaker, is it the addressee. -/
def blend (o a x y z : EReal) : EReal := (1 - o - a) * x + o * y + a * z

/-- Row `r * 256 + b` of the flat memory. -/
def row (r : Fin 10) (b : Fin 256) : Fin 2560 := ⟨r.val * 256 + b.val, by omega⟩

/-- Row `a * 256 + b` of a chunk. -/
def crow (a : Fin 2) (b : Fin 256) : Fin 512 := ⟨a.val * 256 + b.val, by omega⟩

theorem flat {off : ℕ} {a : Fin 2} {b : Fin 256} {r : Fin 10} (h : off + (a.val * 256 + b.val) < 2560)
    (e : off + a.val * 256 = r.val * 256) : (⟨off + (a.val * 256 + b.val), h⟩ : Fin 2560) = row r b :=
  Fin.ext (by simp only [row]; omega)

/-- A chunk of the new memory, read at role `a` of it: the blend of the others' cell (input gates: the first 768 columns
    of the encoding's product), the speaker's and the addressee's. -/
def cell (o a : EReal) (gi gh : Fin 768 → EReal) (h y z : EReal) (c : Fin 256) : EReal :=
  blend o a (Spec.gru gi gh h c) y z

section first
/-! ### The first utterance of a grid point -/

theorem gates0 (e : Vec Ideal S1x256x512 .bf16) (w : Vec Ideal S512x2304 .bf16) (b : Fin 256) (n : Fin 2304) :
    k0_pay13 e w (ix2 b n) = ∑ k : Fin 512, e (ix3 0 b k) * w (ix2 k n) := by
  pointwise [k0_pay13]

theorem mem0 (A : Vec Ideal S2560x256 .f32) (r : Fin 10) (b d : Fin 256) :
    k0_pay15 A (ix3 r b d) = A (ix2 (row r b) d) := by
  pointwise [k0_pay15, k0_pay14, row]

theorem spk0 (o : Vec Ideal S1x10x256 .f32) (A : Vec Ideal S2560x256 .f32) (b d : Fin 256) :
    k0_pay16 o A (ix2 b d) = ∑ r : Fin 10, o (ix3 0 r b) * A (ix2 (row r b) d) := by
  pointwise [k0_pay16, k0_pay11, k0_pay15, k0_pay14, row]

theorem adr0 (o : Vec Ideal S1x10x256 .f32) (A : Vec Ideal S2560x256 .f32) (b d : Fin 256) :
    k0_pay17 o A (ix2 b d) = ∑ r : Fin 10, o (ix3 0 r b) * A (ix2 (row r b) d) := by
  pointwise [k0_pay17, k0_pay12, k0_pay15, k0_pay14, row]

theorem byS0 (o : Vec Ideal S1x10x256 .f32) (A : Vec Ideal S2560x256 .f32) (w : Vec Ideal S256x1536 .bf16)
    (b : Fin 256) (n : Fin 1536) :
    k0_pay18 o A w (ix2 b n) = ∑ k : Fin 256, k0_pay16 o A (ix2 b k) * w (ix2 k n) := by
  pointwise [k0_pay18]

theorem byA0 (o : Vec Ideal S1x10x256 .f32) (A : Vec Ideal S2560x256 .f32) (w : Vec Ideal S256x1536 .bf16)
    (b : Fin 256) (n : Fin 1536) :
    k0_pay19 o A w (ix2 b n) = ∑ k : Fin 256, k0_pay17 o A (ix2 b k) * w (ix2 k n) := by
  pointwise [k0_pay19]

theorem hid0_0 (A : Vec Ideal S2560x256 .f32) (w : Vec Ideal S256x768 .bf16) (a : Fin 2) (b : Fin 256) (n : Fin 768) :
    k0_pay22 (k0_pay21 A) w (ix2 (crow a b) n) = ∑ k : Fin 256, A (ix2 (row ⟨0 + a.val, by omega⟩ b) k) * w (ix2 k n) := by
  pointwise [k0_pay22, k0_pay21, k0_pay20, k0_pay14, row, crow]

theorem hid0_1 (A : Vec Ideal S2560x256 .f32) (w : Vec Ideal S256x768 .bf16) (a : Fin 2) (b : Fin 256) (n : Fin 768) :
    k0_pay23 (k0_pay20 A) w (ix2 (crow a b) n) = ∑ k : Fin 256, A (ix2 (row ⟨2 + a.val, by omega⟩ b) k) * w (ix2 k n) := by
  pointwise [k0_pay23, k0_pay21, k0_pay20, k0_pay14, crow]
  exact Finset.sum_congr rfl fun x _ => congrArg (fun i => A (ix2 i x) * w (ix2 x n)) (flat (off := 512) (a := a) (b := b) (r := ⟨2 + a.val, by omega⟩) _ (by show 512 + _ = (_ + _) * 256; omega))

theorem hid0_2 (A : Vec Ideal S2560x256 .f32) (w : Vec Ideal S256x768 .bf16) (a : Fin 2) (b : Fin 256) (n : Fin 768) :
    k0_pay24 (k0_pay20 A) w (ix2 (crow a b) n) = ∑ k : Fin 256, A (ix2 (row ⟨4 + a.val, by omega⟩ b) k) * w (ix2 k n) := by
  pointwise [k0_pay24, k0_pay21, k0_pay20, k0_pay14, crow]
  exact Finset.sum_congr rfl fun x _ => congrArg (fun i => A (ix2 i x) * w (ix2 x n)) (flat (off := 1024) (a := a) (b := b) (r := ⟨4 + a.val, by omega⟩) _ (by show 1024 + _ = (_ + _) * 256; omega))

theorem hid0_3 (A : Vec Ideal S2560x256 .f32) (w : Vec Ideal S256x768 .bf16) (a : Fin 2) (b : Fin 256) (n : Fin 768) :
    k0_pay25 (k0_pay20 A) w (ix2 (crow a b) n) = ∑ k : Fin 256, A (ix2 (row ⟨6 + a.val, by omega⟩ b) k) * w (ix2 k n) := by
  pointwise [k0_pay25, k0_pay21, k0_pay20, k0_pay14, crow]
  exact Finset.sum_congr rfl fun x _ => congrArg (fun i => A (ix2 i x) * w (ix2 x n)) (flat (off := 1536) (a := a) (b := b) (r := ⟨6 + a.val, by omega⟩) _ (by show 1536 + _ = (_ + _) * 256; omega))

theorem hid0_4 (A : Vec Ideal S2560x256 .f32) (w : Vec Ideal S256x768 .bf16) (a : Fin 2) (b : Fin 256) (n : Fin 768) :
    k0_pay26 (k0_pay20 A) w (ix2 (crow a b) n) = ∑ k : Fin 256, A (ix2 (row ⟨8 + a.val, by omega⟩ b) k) * w (ix2 k n) := by
  pointwise [k0_pay26, k0_pay21, k0_pay20, k0_pay14, crow]
  exact Finset.sum_congr rfl fun x _ => congrArg (fun i => A (ix2 i x) * w (ix2 x n)) (flat (off := 2048) (a := a) (b := b) (r := ⟨8 + a.val, by omega⟩) _ (by show 2048 + _ = (_ + _) * 256; omega))

theorem newS0 (G : FVec Ideal S256x2304 .f32) (x : FVec Ideal S256x256 .f32) (S A : FVec Ideal S256x1536 .f32) (b c : Fin 256) :
    k0_pay27 G x S A (ix2 b c) = Spec.gru (fun n => G (ix2 b ⟨768 + n.val, by omega⟩) + A (ix2 b ⟨n.val, by omega⟩))
      (fun n => S (ix2 b ⟨n.val, by omega⟩)) (x (ix2 b c)) c := by
  unfold Spec.gru
  pointwise [k0_pay27]

theorem newA0 (G : FVec Ideal S256x2304 .f32) (x : FVec Ideal S256x256 .f32) (S A : FVec Ideal S256x1536 .f32) (b c : Fin 256) :
    k0_pay30 x (k0_pay28 G S) (k0_pay29 A) (ix2 b c)
      = Spec.gru (fun n => G (ix2 b ⟨1536 + n.val, by omega⟩) + S (ix2 b ⟨768 + n.val, by omega⟩))
          (fun n => A (ix2 b ⟨768 + n.val, by omega⟩)) (x (ix2 b c)) c := by
  unfold Spec.gru
  pointwise [k0_pay30, k0_pay28, k0_pay29]

theorem chunk0_0 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay36 z (k0_pay32 o) (k0_pay33 q) (k0_pay34 o q G M H) (k0_pay35 y) (ix2 (crow a b) c)
      = cell (o (ix2 ⟨0 + a.val, by omega⟩ b)) (q (ix2 ⟨0 + a.val, by omega⟩ b)) (fun n => G (ix2 b ⟨n.val, by omega⟩))
          (fun n => H (ix2 (crow a b) n)) (M (ix3 ⟨0 + a.val, by omega⟩ b c)) (y (ix2 b c)) (z (ix2 b c)) c := by
  unfold cell blend Spec.gru crow
  pointwise [k0_pay36, k0_pay32, k0_pay33, k0_pay34, k0_pay35, k0_pay31]

theorem chunk0_1 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay41 (k0_pay38 o q M H y (k0_pay31 G)) (k0_pay39 q) (k0_pay40 z) (ix2 (crow a b) c)
      = cell (o (ix2 ⟨2 + a.val, by omega⟩ b)) (q (ix2 ⟨2 + a.val, by omega⟩ b)) (fun n => G (ix2 b ⟨n.val, by omega⟩))
          (fun n => H (ix2 (crow a b) n)) (M (ix3 ⟨2 + a.val, by omega⟩ b c)) (y (ix2 b c)) (z (ix2 b c)) c := by
  unfold cell blend Spec.gru crow
  pointwise [k0_pay41, k0_pay38, k0_pay37, k0_pay39, k0_pay40, k0_pay31]

theorem chunk0_2 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay42 o q M H y z (k0_pay31 G) (ix2 (crow a b) c)
      = cell (o (ix2 ⟨4 + a.val, by omega⟩ b)) (q (ix2 ⟨4 + a.val, by omega⟩ b)) (fun n => G (ix2 b ⟨n.val, by omega⟩))
          (fun n => H (ix2 (crow a b) n)) (M (ix3 ⟨4 + a.val, by omega⟩ b c)) (y (ix2 b c)) (z (ix2 b c)) c := by
  unfold cell blend Spec.gru crow
  pointwise [k0_pay42, k0_pay31]

theorem chunk0_3 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay43 o q M H y z (k0_pay31 G) (ix2 (crow a b) c)
      = cell (o (ix2 ⟨6 + a.val, by omega⟩ b)) (q (ix2 ⟨6 + a.val, by omega⟩ b)) (fun n => G (ix2 b ⟨n.val, by omega⟩))
          (fun n => H (ix2 (crow a b) n)) (M (ix3 ⟨6 + a.val, by omega⟩ b c)) (y (ix2 b c)) (z (ix2 b c)) c := by
  unfold cell blend Spec.gru crow
  pointwise [k0_pay43, k0_pay31]

theorem chunk0_4 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay47 o q y z (k0_pay31 G) (k0_pay44 H) (k0_pay45 M) (k0_pay46 H (k0_pay31 G)) (ix2 (crow a b) c)
      = cell (o (ix2 ⟨8 + a.val, by omega⟩ b)) (q (ix2 ⟨8 + a.val, by omega⟩ b)) (fun n => G (ix2 b ⟨n.val, by omega⟩))
          (fun n => H (ix2 (crow a b) n)) (M (ix3 ⟨8 + a.val, by omega⟩ b c)) (y (ix2 b c)) (z (ix2 b c)) c := by
  unfold cell blend Spec.gru crow
  pointwise [k0_pay47, k0_pay44, k0_pay45, k0_pay46, k0_pay31]

end first

section second
/-! ### The second utterance of a grid point -/

theorem gates1 (e : Vec Ideal S1x256x512 .bf16) (w : Vec Ideal S512x2304 .bf16) (b : Fin 256) (n : Fin 2304) :
    k0_pay51 (k0_pay48 e) w (ix2 b n) = ∑ k : Fin 512, e (ix3 0 b k) * w (ix2 k n) := by
  pointwise [k0_pay51, k0_pay48]

theorem mem1 (A : Vec Ideal S2560x256 .f32) (r : Fin 10) (b d : Fin 256) :
    k0_pay53 A (ix3 r b d) = A (ix2 (row r b) d) := by
  pointwise [k0_pay53, k0_pay52, row]

theorem spk1 (o : Vec Ideal S1x10x256 .f32) (A : Vec Ideal S2560x256 .f32) (b d : Fin 256) :
    k0_pay54 (k0_pay49 o) A (ix2 b d) = ∑ r : Fin 10, o (ix3 0 r b) * A (ix2 (row r b) d) := by
  pointwise [k0_pay54, k0_pay49, k0_pay53, k0_pay52, row]

theorem adr1 (o : Vec Ideal S1x10x256 .f32) (A : Vec Ideal S2560x256 .f32) (b d : Fin 256) :
    k0_pay55 o A (ix2 b d) = ∑ r : Fin 10, o (ix3 0 r b) * A (ix2 (row r b) d) := by
  pointwise [k0_pay55, k0_pay50, k0_pay53, k0_pay52, row]

theorem byS1 (o : FVec Ideal S10x256 .f32) (A : Vec Ideal S2560x256 .f32) (w : Vec Ideal S256x1536 .bf16)
    (b : Fin 256) (n : Fin 1536) :
    k0_pay56 o A w (ix2 b n) = ∑ k : Fin 256, k0_pay54 o A (ix2 b k) * w (ix2 k n) := by
  pointwise [k0_pay56]

theorem byA1 (o : Vec Ideal S1x10x256 .f32) (A : Vec Ideal S2560x256 .f32) (w : Vec Ideal S256x1536 .bf16)
    (b : Fin 256) (n : Fin 1536) :
    k0_pay57 o A w (ix2 b n) = ∑ k : Fin 256, k0_pay55 o A (ix2 b k) * w (ix2 k n) := by
  pointwise [k0_pay57]

theorem hid1_0 (A : Vec Ideal S2560x256 .f32) (w : Vec Ideal S256x768 .bf16) (a : Fin 2) (b : Fin 256) (n : Fin 768) :
    k0_pay59 A w (ix2 (crow a b) n) = ∑ k : Fin 256, A (ix2 (row ⟨0 + a.val, by omega⟩ b) k) * w (ix2 k n) := by
  pointwise [k0_pay59, k0_pay60, k0_pay61, k0_pay63, k0_pay62, k0_pay64, k0_pay58, k0_pay52, row, crow]

theorem hid1_1 (A : Vec Ideal S2560x256 .f32) (w : Vec Ideal S256x768 .bf16) (a : Fin 2) (b : Fin 256) (n : Fin 768) :
    k0_pay60 A w (ix2 (crow a b) n) = ∑ k : Fin 256, A (ix2 (row ⟨2 + a.val, by omega⟩ b) k) * w (ix2 k n) := by
  pointwise [k0_pay59, k0_pay60, k0_pay61, k0_pay63, k0_pay62, k0_pay64, k0_pay58, k0_pay52, crow]
  exact Finset.sum_congr rfl fun x _ => congrArg (fun i => A (ix2 i x) * w (ix2 x n)) (flat (off := 512) (a := a) (b := b) (r := ⟨2 + a.val, by omega⟩) _ (by show 512 + _ = (_ + _) * 256; omega))

theorem hid1_2 (A : Vec Ideal S2560x256 .f32) (w : Vec Ideal S256x768 .bf16) (a : Fin 2) (b : Fin 256) (n : Fin 768) :
    k0_pay61 A w (ix2 (crow a b) n) = ∑ k : Fin 256, A (ix2 (row ⟨4 + a.val, by omega⟩ b) k) * w (ix2 k n) := by
  pointwise [k0_pay59, k0_pay60, k0_pay61, k0_pay63, k0_pay62, k0_pay64, k0_pay58, k0_pay52, crow]
  exact Finset.sum_congr rfl fun x _ => congrArg (fun i => A (ix2 i x) * w (ix2 x n)) (flat (off := 1024) (a := a) (b := b) (r := ⟨4 + a.val, by omega⟩) _ (by show 1024 + _ = (_ + _) * 256; omega))

theorem hid1_3 (A : Vec Ideal S2560x256 .f32) (w : Vec Ideal S256x768 .bf16) (a : Fin 2) (b : Fin 256) (n : Fin 768) :
    k0_pay63 (k0_pay62 A) w (ix2 (crow a b) n) = ∑ k : Fin 256, A (ix2 (row ⟨6 + a.val, by omega⟩ b) k) * w (ix2 k n) := by
  pointwise [k0_pay59, k0_pay60, k0_pay61, k0_pay63, k0_pay62, k0_pay64, k0_pay58, k0_pay52, crow]
  exact Finset.sum_congr rfl fun x _ => congrArg (fun i => A (ix2 i x) * w (ix2 x n)) (flat (off := 1536) (a := a) (b := b) (r := ⟨6 + a.val, by omega⟩) _ (by show 1536 + _ = (_ + _) * 256; omega))

theorem hid1_4 (A : Vec Ideal S2560x256 .f32) (w : Vec Ideal S256x768 .bf16) (a : Fin 2) (b : Fin 256) (n : Fin 768) :
    k0_pay64 (k0_pay58 A) w (ix2 (crow a b) n) = ∑ k : Fin 256, A (ix2 (row ⟨8 + a.val, by omega⟩ b) k) * w (ix2 k n) := by
  pointwise [k0_pay59, k0_pay60, k0_pay61, k0_pay63, k0_pay62, k0_pay64, k0_pay58, k0_pay52, crow]
  exact Finset.sum_congr rfl fun x _ => congrArg (fun i => A (ix2 i x) * w (ix2 x n)) (flat (off := 2048) (a := a) (b := b) (r := ⟨8 + a.val, by omega⟩) _ (by show 2048 + _ = (_ + _) * 256; omega))

theorem newS1 (G : FVec Ideal S256x2304 .f32) (x : FVec Ideal S256x256 .f32) (S A : FVec Ideal S256x1536 .f32) (b c : Fin 256) :
    k0_pay65 G x S A (ix2 b c) = Spec.gru (fun n => G (ix2 b ⟨768 + n.val, by omega⟩) + A (ix2 b ⟨n.val, by omega⟩))
      (fun n => S (ix2 b ⟨n.val, by omega⟩)) (x (ix2 b c)) c := by
  unfold Spec.gru
  pointwise [k0_pay65]

theorem newA1 (G : FVec Ideal S256x2304 .f32) (x : FVec Ideal S256x256 .f32) (S A : FVec Ideal S256x1536 .f32) (b c : Fin 256) :
    k0_pay66 G x S A (ix2 b c)
      = Spec.gru (fun n => G (ix2 b ⟨1536 + n.val, by omega⟩) + S (ix2 b ⟨768 + n.val, by omega⟩))
          (fun n => A (ix2 b ⟨768 + n.val, by omega⟩)) (x (ix2 b c)) c := by
  unfold Spec.gru
  pointwise [k0_pay66]

theorem chunk1_0 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay68 o q M H y z (k0_pay67 G) (ix2 (crow a b) c)
      = cell (o (ix2 ⟨0 + a.val, by omega⟩ b)) (q (ix2 ⟨0 + a.val, by omega⟩ b)) (fun n => G (ix2 b ⟨n.val, by omega⟩))
          (fun n => H (ix2 (crow a b) n)) (M (ix3 ⟨0 + a.val, by omega⟩ b c)) (y (ix2 b c)) (z (ix2 b c)) c := by
  unfold cell blend Spec.gru crow
  pointwise [k0_pay68, k0_pay67]

theorem chunk1_1 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay72 o q y z (k0_pay67 G) (k0_pay69 H) (k0_pay70 M) (k0_pay71 H (k0_pay67 G)) (ix2 (crow a b) c)
      = cell (o (ix2 ⟨2 + a.val, by omega⟩ b)) (q (ix2 ⟨2 + a.val, by omega⟩ b)) (fun n => G (ix2 b ⟨n.val, by omega⟩))
          (fun n => H (ix2 (crow a b) n)) (M (ix3 ⟨2 + a.val, by omega⟩ b c)) (y (ix2 b c)) (z (ix2 b c)) c := by
  unfold cell blend Spec.gru crow
  pointwise [k0_pay72, k0_pay69, k0_pay70, k0_pay71, k0_pay67]

theorem chunk1_2 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay78 o q y z (k0_pay73 H) (k0_pay74 M) (k0_pay75 H (k0_pay67 G)) (k0_pay76 H (k0_pay67 G)) (k0_pay77 (k0_pay67 G)) (ix2 (crow a b) c)
      = cell (o (ix2 ⟨4 + a.val, by omega⟩ b)) (q (ix2 ⟨4 + a.val, by omega⟩ b)) (fun n => G (ix2 b ⟨n.val, by omega⟩))
          (fun n => H (ix2 (crow a b) n)) (M (ix3 ⟨4 + a.val, by omega⟩ b c)) (y (ix2 b c)) (z (ix2 b c)) c := by
  unfold cell blend Spec.gru crow
  pointwise [k0_pay78, k0_pay73, k0_pay74, k0_pay75, k0_pay76, k0_pay77, k0_pay67]

theorem chunk1_3 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay83 o q y z (k0_pay80 M) (k0_pay81 H (k0_pay67 G)) (k0_pay82 H (k0_pay67 G)) (ix2 (crow a b) c)
      = cell (o (ix2 ⟨6 + a.val, by omega⟩ b)) (q (ix2 ⟨6 + a.val, by omega⟩ b)) (fun n => G (ix2 b ⟨n.val, by omega⟩))
          (fun n => H (ix2 (crow a b) n)) (M (ix3 ⟨6 + a.val, by omega⟩ b c)) (y (ix2 b c)) (z (ix2 b c)) c := by
  unfold cell blend Spec.gru crow
  pointwise [k0_pay83, k0_pay79, k0_pay80, k0_pay81, k0_pay82, k0_pay67]

theorem chunk1_4 (o q : FVec Ideal S10x256 .f32) (G : FVec Ideal S256x2304 .f32) (M : FVec Ideal S10x256x256 .f32)
    (H : FVec Ideal S512x768 .f32) (y z : FVec Ideal S256x256 .f32) (a : Fin 2) (b c : Fin 256) :
    k0_pay1 o q y z (k0_pay84 M H (k0_pay67 G)) (ix2 (crow a b) c)
      = cell (o (ix2 ⟨8 + a.val, by omega⟩ b)) (q (ix2 ⟨8 + a.val, by omega⟩ b)) (fun n => G (ix2 b ⟨n.val, by omega⟩))
          (fun n => H (ix2 (crow a b) n)) (M (ix3 ⟨8 + a.val, by omega⟩ b c)) (y (ix2 b c)) (z (ix2 b c)) c := by
  unfold cell blend Spec.gru crow
  pointwise [k0_pay1, k0_pay84, k0_pay67]

end second

end Cert.Proof.KPay

end
-- ==== Proof.KStep.lean ====
/-
  One utterance of the kernel: the five chunks it stores are one array, whose row `r * 256 + b` is role `r`'s new features in
  batch row `b`. The first and the second utterance of a grid point compute the same function of what they load.
-/
module

public import proofs.«01_k».proof.Proof.KPay
public import proofs.«01_k».proof.Proof.Gen.KernelIdeal.Frame
public import Idealize.ShloMosaic.Lib.Pipeline.CanonAppend

@[expose] public section

set_option maxRecDepth 16384

noncomputable section

namespace Cert.Proof.KStep

open Idealize.ShloMosaic Idealize.ShloMosaic.Tactic Cert.KernelIdeal Cert.KernelIdeal.Gen Cert.Proof.KPay

/-- What an utterance loads: the encodings, the two marks of every role, and the four weight matrices. -/
structure Inputs where
  /-- The encodings. -/
  e : Vec Ideal S1x256x512 .bf16
  /-- Is the role the speaker. -/
  o : Vec Ideal S1x10x256 .f32
  /-- Is the role the addressee. -/
  q : Vec Ideal S1x10x256 .f32
  /-- The weights the encodings meet. -/
  wE : Vec Ideal S512x2304 .bf16
  /-- The hidden weights of the roles that take no part. -/
  wO : Vec Ideal S256x768 .bf16
  /-- The weights the speaker's features meet. -/
  wS : Vec Ideal S256x1536 .bf16
  /-- The weights the addressee's features meet. -/
  wA : Vec Ideal S256x1536 .bf16

variable (u : Inputs) (A : Vec Ideal S2560x256 .f32)

/-- The encoding's product with its weights. -/
def gE (b : Fin 256) (n : Fin 2304) : EReal := ∑ k : Fin 512, u.e (ix3 0 b k) * u.wE (ix2 k n)
/-- The features of the role a mark selects. -/
def pick (o : Vec Ideal S1x10x256 .f32) (b d : Fin 256) : EReal := ∑ r : Fin 10, o (ix3 0 r b) * A (ix2 (row r b) d)
/-- Their product with the weights they meet. -/
def byPick (o : Vec Ideal S1x10x256 .f32) (w : Vec Ideal S256x1536 .bf16) (b : Fin 256) (n : Fin 1536) : EReal :=
  ∑ k : Fin 256, pick A o b k * w (ix2 k n)
/-- The speaker's new features. -/
def sNew (b c : Fin 256) : EReal :=
  Spec.gru (fun n => gE u b ⟨768 + n.val, by omega⟩ + byPick A u.q u.wA b ⟨n.val, by omega⟩)
    (fun n => byPick A u.o u.wS b ⟨n.val, by omega⟩) (pick A u.o b c) c
/-- The addressee's new features. -/
def aNew (b c : Fin 256) : EReal :=
  Spec.gru (fun n => gE u b ⟨1536 + n.val, by omega⟩ + byPick A u.o u.wS b ⟨768 + n.val, by omega⟩)
    (fun n => byPick A u.q u.wA b ⟨768 + n.val, by omega⟩) (pick A u.q b c) c
/-- Role `r`'s new features in batch row `b`. -/
def nextAt (r : Fin 10) (b c : Fin 256) : EReal :=
  cell (u.o (ix3 0 r b)) (u.q (ix3 0 r b)) (fun n => gE u b ⟨n.val, by omega⟩)
    (fun n => ∑ k : Fin 256, A (ix2 (row r b) k) * u.wO (ix2 k n)) (A (ix2 (row r b) c)) (sNew u A b c) (aNew u A b c) c
/-- The new memory, flat. -/
def next : Vec Ideal S2560x256 .f32 := fun y =>
  nextAt u A ⟨(y 0).val / 256, by have h := (y 0).isLt; change (y 0).val < 2560 at h; omega⟩
    ⟨(y 0).val % 256, Nat.mod_lt _ (by decide)⟩ (y 1)

theorem next_row (r : Fin 10) (b c : Fin 256) : next u A (ix2 (row r b) c) = nextAt u A r b c := by
  have h1 : (⟨(row r b).val / 256, by simp only [row]; omega⟩ : Fin 10) = r := Fin.ext (by simp only [row]; omega)
  have h2 : (⟨(row r b).val % 256, Nat.mod_lt _ (by decide)⟩ : Fin 256) = b := Fin.ext (by simp only [row]; omega)
  show nextAt u A ⟨(row r b).val / 256, _⟩ ⟨(row r b).val % 256, _⟩ c = _
  rw [h1, h2]

/-! ### The first utterance -/

theorem mark_o0 (o : Vec Ideal S1x10x256 .f32) (r : Fin 10) (b : Fin 256) : k0_pay11 o (ix2 r b) = o (ix3 0 r b) := by
  pointwise [k0_pay11]
theorem mark_q0 (o : Vec Ideal S1x10x256 .f32) (r : Fin 10) (b : Fin 256) : k0_pay12 o (ix2 r b) = o (ix3 0 r b) := by
  pointwise [k0_pay12]

/-- The speaker's new features as the first utterance prints them. -/
def y0 : FVec Ideal S256x256 .f32 := k0_pay27 (k0_pay13 u.e u.wE) (k0_pay16 u.o A) (k0_pay18 u.o A u.wS) (k0_pay19 u.q A u.wA)
/-- The addressee's. -/
def z0 : FVec Ideal S256x256 .f32 :=
  k0_pay30 (k0_pay17 u.q A) (k0_pay28 (k0_pay13 u.e u.wE) (k0_pay18 u.o A u.wS)) (k0_pay29 (k0_pay19 u.q A u.wA))

theorem y0_at (b c : Fin 256) : y0 u A (ix2 b c) = sNew u A b c := by
  unfold y0 sNew byPick pick gE
  simp only [newS0, gates0, byA0, byS0, spk0, adr0]

theorem z0_at (b c : Fin 256) : z0 u A (ix2 b c) = aNew u A b c := by
  unfold z0 aNew byPick pick gE
  simp only [newA0, gates0, byA0, byS0, spk0, adr0]

/-- The five chunks the first utterance stores, the last first. -/
def pieces0 : List (View.Piece (Elt Ideal) S2560x256 .f32) :=
  [⟨Rect.unit ![2048, 0] ![512, 256] inb_S2560x256_S512x256_2048_0,
      k0_pay47 (k0_pay11 u.o) (k0_pay12 u.q) (y0 u A) (z0 u A) (k0_pay31 (k0_pay13 u.e u.wE)) (k0_pay44 (k0_pay26 (k0_pay20 A) u.wO))
        (k0_pay45 (k0_pay15 A)) (k0_pay46 (k0_pay26 (k0_pay20 A) u.wO) (k0_pay31 (k0_pay13 u.e u.wE)))⟩,
    ⟨Rect.unit ![1536, 0] ![512, 256] inb_S2560x256_S512x256_1536_0,
      k0_pay43 (k0_pay11 u.o) (k0_pay12 u.q) (k0_pay15 A) (k0_pay25 (k0_pay20 A) u.wO) (y0 u A) (z0 u A)
        (k0_pay31 (k0_pay13 u.e u.wE))⟩,
    ⟨Rect.unit ![1024, 0] ![512, 256] inb_S2560x256_S512x256_1024_0,
      k0_pay42 (k0_pay11 u.o) (k0_pay12 u.q) (k0_pay15 A) (k0_pay24 (k0_pay20 A) u.wO) (y0 u A) (z0 u A)
        (k0_pay31 (k0_pay13 u.e u.wE))⟩,
    ⟨Rect.unit ![512, 0] ![512, 256] inb_S2560x256_S512x256_512_0,
      k0_pay41
        (k0_pay38 (k0_pay11 u.o) (k0_pay12 u.q) (k0_pay15 A) (k0_pay23 (k0_pay20 A) u.wO) (y0 u A) (k0_pay31 (k0_pay13 u.e u.wE)))
        (k0_pay39 (k0_pay12 u.q)) (k0_pay40 (z0 u A))⟩,
    ⟨Rect.unit ![0, 0] ![512, 256] inb_S2560x256_S512x256_0_0,
      k0_pay36 (z0 u A) (k0_pay32 (k0_pay11 u.o)) (k0_pay33 (k0_pay12 u.q))
        (k0_pay34 (k0_pay11 u.o) (k0_pay12 u.q) (k0_pay13 u.e u.wE) (k0_pay15 A) (k0_pay22 (k0_pay21 A) u.wO))
        (k0_pay35 (y0 u A))⟩]

/-- A chunk that is the new features of two roles agrees with the new memory where it is stored. -/
theorem chunk_ok {off : ℕ} (i : ℕ) (hi : i < 5) (ho : off = 512 * i) (inb) (w : Vec Ideal S512x256 .f32)
    (h : ∀ (a : Fin 2) (b c : Fin 256), w (ix2 (crow a b) c) = nextAt u A ⟨2 * i + a.val, by omega⟩ b c)
    (x : S512x256.Idx) : w x = next u A ((Rect.unit (s := S2560x256) ![off, 0] ![512, 256] inb).emb x) := by
  obtain ⟨n, c, rfl⟩ : ∃ (n : Fin 512) (c : Fin 256), x = ix2 n c :=
    ⟨x 0, x 1, by funext a; match a with | ⟨0, _⟩ => rfl | ⟨1, _⟩ => rfl⟩
  have hn : n = crow ⟨n.val / 256, by omega⟩ ⟨n.val % 256, Nat.mod_lt _ (by decide)⟩ := Fin.ext (by simp only [crow]; omega)
  have he : (Rect.unit (s := S2560x256) ![off, 0] ![512, 256] inb).emb (ix2 n c)
      = ix2 (row ⟨2 * i + n.val / 256, by omega⟩ ⟨n.val % 256, Nat.mod_lt _ (by decide)⟩) c := by
    funext a
    refine Fin.ext ?_
    match a with
    | ⟨0, _⟩ => show off + 1 * n.val = (2 * i + n.val / 256) * 256 + n.val % 256; omega
    | ⟨1, _⟩ => show 0 + 1 * c.val = c.val; omega
  rw [he, next_row, ← h ⟨n.val / 256, by omega⟩ ⟨n.val % 256, Nat.mod_lt _ (by decide)⟩ c, ← hn]

theorem pieces0_ok : ∀ p ∈ pieces0 u A, ∀ x : p.1.shape.Idx, p.2 x = next u A (p.1.emb x) := by
  intro p hp
  simp only [pieces0, List.mem_cons, List.not_mem_nil, or_false] at hp
  rcases hp with rfl | rfl | rfl | rfl | rfl
  · exact chunk_ok u A 4 (by decide) rfl inb_S2560x256_S512x256_2048_0 _ fun a b c => by
      refine (chunk0_4 _ _ _ _ _ _ _ a b c).trans ?_; simp only [mark_o0, mark_q0, gates0, hid0_4, mem0, y0_at, z0_at]; rfl
  · exact chunk_ok u A 3 (by decide) rfl inb_S2560x256_S512x256_1536_0 _ fun a b c => by
      refine (chunk0_3 _ _ _ _ _ _ _ a b c).trans ?_; simp only [mark_o0, mark_q0, gates0, hid0_3, mem0, y0_at, z0_at]; rfl
  · exact chunk_ok u A 2 (by decide) rfl inb_S2560x256_S512x256_1024_0 _ fun a b c => by
      refine (chunk0_2 _ _ _ _ _ _ _ a b c).trans ?_; simp only [mark_o0, mark_q0, gates0, hid0_2, mem0, y0_at, z0_at]; rfl
  · exact chunk_ok u A 1 (by decide) rfl inb_S2560x256_S512x256_512_0 _ fun a b c => by
      refine (chunk0_1 _ _ _ _ _ _ _ a b c).trans ?_; simp only [mark_o0, mark_q0, gates0, hid0_1, mem0, y0_at, z0_at]; rfl
  · exact chunk_ok u A 0 (by decide) rfl inb_S2560x256_S512x256_0_0 _ fun a b c => by
      refine (chunk0_0 _ _ _ _ _ _ _ a b c).trans ?_; simp only [mark_o0, mark_q0, gates0, hid0_0, mem0, y0_at, z0_at]; rfl

theorem pieces0_cover (y : S2560x256.Idx) : ∃ p ∈ pieces0 u A, y ∈ p.1.set :=
  View.cover_of_tiledL (pieces0 u A) S512x256.size (by sl_kernel_rfl) y

/-- The memory after the first utterance's stores, over whatever was stored before. -/
theorem canon0 (L : List (View.Piece (Elt Ideal) S2560x256 .f32)) : View.canon (pieces0 u A ++ L) = next u A :=
  funext fun y => View.canon_append_of_pieces _ L _ (pieces0_ok u A) y (pieces0_cover u A y)

/-! ### The second utterance -/

theorem mark_o1 (o : Vec Ideal S1x10x256 .f32) (r : Fin 10) (b : Fin 256) : k0_pay49 o (ix2 r b) = o (ix3 0 r b) := by
  pointwise [k0_pay49]
theorem mark_q1 (o : Vec Ideal S1x10x256 .f32) (r : Fin 10) (b : Fin 256) : k0_pay50 o (ix2 r b) = o (ix3 0 r b) := by
  pointwise [k0_pay50]

/-- The speaker's new features as the second utterance prints them. -/
def y1 : FVec Ideal S256x256 .f32 :=
  k0_pay65 (k0_pay51 (k0_pay48 u.e) u.wE) (k0_pay54 (k0_pay49 u.o) A) (k0_pay56 (k0_pay49 u.o) A u.wS) (k0_pay57 u.q A u.wA)
/-- The addressee's. -/
def z1 : FVec Ideal S256x256 .f32 :=
  k0_pay66 (k0_pay51 (k0_pay48 u.e) u.wE) (k0_pay55 u.q A) (k0_pay56 (k0_pay49 u.o) A u.wS) (k0_pay57 u.q A u.wA)

theorem y1_at (b c : Fin 256) : y1 u A (ix2 b c) = sNew u A b c := by
  unfold y1 sNew byPick pick gE
  simp only [newS1, gates1, byA1, byS1, spk1, adr1]

theorem z1_at (b c : Fin 256) : z1 u A (ix2 b c) = aNew u A b c := by
  unfold z1 aNew byPick pick gE
  simp only [newA1, gates1, byA1, byS1, spk1, adr1]

/-- The others' input gates as the second utterance prints them. -/
def g1 : FVec Ideal S1x256x768 .f32 := k0_pay67 (k0_pay51 (k0_pay48 u.e) u.wE)

/-- The five chunks the second utterance stores, the last first. -/
def pieces1 : List (View.Piece (Elt Ideal) S2560x256 .f32) :=
  [⟨Rect.unit ![2048, 0] ![512, 256] inb_S2560x256_S512x256_2048_0,
      k0_pay1 (k0_pay49 u.o) (k0_pay50 u.q) (y1 u A) (z1 u A) (k0_pay84 (k0_pay53 A) (k0_pay64 (k0_pay58 A) u.wO) (g1 u))⟩,
    ⟨Rect.unit ![1536, 0] ![512, 256] inb_S2560x256_S512x256_1536_0,
      k0_pay83 (k0_pay49 u.o) (k0_pay50 u.q) (y1 u A) (z1 u A) (k0_pay80 (k0_pay53 A))
        (k0_pay81 (k0_pay63 (k0_pay62 A) u.wO) (g1 u)) (k0_pay82 (k0_pay63 (k0_pay62 A) u.wO) (g1 u))⟩,
    ⟨Rect.unit ![1024, 0] ![512, 256] inb_S2560x256_S512x256_1024_0,
      k0_pay78 (k0_pay49 u.o) (k0_pay50 u.q) (y1 u A) (z1 u A) (k0_pay73 (k0_pay61 A u.wO)) (k0_pay74 (k0_pay53 A))
        (k0_pay75 (k0_pay61 A u.wO) (g1 u)) (k0_pay76 (k0_pay61 A u.wO) (g1 u)) (k0_pay77 (g1 u))⟩,
    ⟨Rect.unit ![512, 0] ![512, 256] inb_S2560x256_S512x256_512_0,
      k0_pay72 (k0_pay49 u.o) (k0_pay50 u.q) (y1 u A) (z1 u A) (g1 u) (k0_pay69 (k0_pay60 A u.wO)) (k0_pay70 (k0_pay53 A))
        (k0_pay71 (k0_pay60 A u.wO) (g1 u))⟩,
    ⟨Rect.unit ![0, 0] ![512, 256] inb_S2560x256_S512x256_0_0,
      k0_pay68 (k0_pay49 u.o) (k0_pay50 u.q) (k0_pay53 A) (k0_pay59 A u.wO) (y1 u A) (z1 u A) (g1 u)⟩]

theorem pieces1_ok : ∀ p ∈ pieces1 u A, ∀ x : p.1.shape.Idx, p.2 x = next u A (p.1.emb x) := by
  intro p hp
  simp only [pieces1, g1, List.mem_cons, List.not_mem_nil, or_false] at hp
  rcases hp with rfl | rfl | rfl | rfl | rfl
  · exact chunk_ok u A 4 (by decide) rfl inb_S2560x256_S512x256_2048_0 _ fun a b c => by
      refine (chunk1_4 _ _ _ _ _ _ _ a b c).trans ?_; simp only [mark_o1, mark_q1, gates1, hid1_4, mem1, y1_at, z1_at]; rfl
  · exact chunk_ok u A 3 (by decide) rfl inb_S2560x256_S512x256_1536_0 _ fun a b c => by
      refine (chunk1_3 _ _ _ _ _ _ _ a b c).trans ?_; simp only [mark_o1, mark_q1, gates1, hid1_3, mem1, y1_at, z1_at]; rfl
  · exact chunk_ok u A 2 (by decide) rfl inb_S2560x256_S512x256_1024_0 _ fun a b c => by
      refine (chunk1_2 _ _ _ _ _ _ _ a b c).trans ?_; simp only [mark_o1, mark_q1, gates1, hid1_2, mem1, y1_at, z1_at]; rfl
  · exact chunk_ok u A 1 (by decide) rfl inb_S2560x256_S512x256_512_0 _ fun a b c => by
      refine (chunk1_1 _ _ _ _ _ _ _ a b c).trans ?_; simp only [mark_o1, mark_q1, gates1, hid1_1, mem1, y1_at, z1_at]; rfl
  · exact chunk_ok u A 0 (by decide) rfl inb_S2560x256_S512x256_0_0 _ fun a b c => by
      refine (chunk1_0 _ _ _ _ _ _ _ a b c).trans ?_; simp only [mark_o1, mark_q1, gates1, hid1_0, mem1, y1_at, z1_at]; rfl

theorem pieces1_cover (y : S2560x256.Idx) : ∃ p ∈ pieces1 u A, y ∈ p.1.set :=
  View.cover_of_tiledL (pieces1 u A) S512x256.size (by sl_kernel_rfl) y

/-- The memory after the second utterance's stores, over whatever was stored before. -/
theorem canon1 (L : List (View.Piece (Elt Ideal) S2560x256 .f32)) : View.canon (pieces1 u A ++ L) = next u A :=
  funext fun y => View.canon_append_of_pieces _ L _ (pieces1_ok u A) y (pieces1_cover u A y)

/-- A load of the whole memory after the first utterance's stores, -/
theorem load0 {sig : RefSig} {κ : Kind} {sp : Space} (v : View sig κ sp S2560x256 .f32) (L : List (View.Piece (Elt Ideal) S2560x256 .f32)) (inb) :
    v.readCov (pieces0 u A ++ L) (Rect.unit ![0, 0] ![2560, 256] inb).toLoadRect = next u A := by
  rw [View.readCov_eq_canon_ld _ _ _ fun y => (pieces0_cover u A y).imp fun p hp => ⟨List.mem_append_left _ hp.1, hp.2⟩, canon0]
  exact View.ld_unit_zero (by funext a; match a with | ⟨0, _⟩ => rfl | ⟨1, _⟩ => rfl) _ _

/-- and after the second's. -/
theorem load1 {sig : RefSig} {κ : Kind} {sp : Space} (v : View sig κ sp S2560x256 .f32) (L : List (View.Piece (Elt Ideal) S2560x256 .f32)) (inb) :
    v.readCov (pieces1 u A ++ L) (Rect.unit ![0, 0] ![2560, 256] inb).toLoadRect = next u A := by
  rw [View.readCov_eq_canon_ld _ _ _ fun y => (pieces1_cover u A y).imp fun p hp => ⟨List.mem_append_left _ hp.1, hp.2⟩, canon1]
  exact View.ld_unit_zero (by funext a; match a with | ⟨0, _⟩ => rfl | ⟨1, _⟩ => rfl) _ _

end Cert.Proof.KStep

end
-- ==== Proof.KPoint.lean ====
/-
  One grid point of the kernel: two utterances, one after the other, on the memory the point before left (on zeros at the first
  point); at the last point the selection head on the memory its two utterances leave.
-/
module

public import proofs.«01_k».proof.Proof.KStep

@[expose] public section

set_option maxRecDepth 16384

noncomputable section

namespace Cert.Proof.KPoint

open Idealize.ShloMosaic Idealize.ShloMosaic.Tactic Cert.KernelIdeal Cert.KernelIdeal.Gen Cert.Proof.KPay Cert.Proof.KStep

variable (m : (ℓ : Loc nD τ sig) → Buf (Elt Ideal) ℓ) (c : Dev nD)

/-- What a point's first utterance loads of the point's blocks. -/
def first (t : Fin cfg0.N) : Inputs where
  e := View.ld (iblk m c 0 t) (Rect.unit ![0, 0, 0] ![1, 256, 512] inb_S2x256x512_S1x256x512_0_0_0)
  o := View.ld (iblk m c 1 t) (Rect.unit ![0, 0, 0] ![1, 10, 256] inb_S2x10x256_S1x10x256_0_0_0)
  q := View.ld (iblk m c 2 t) (Rect.unit ![0, 0, 0] ![1, 10, 256] inb_S2x10x256_S1x10x256_0_0_0)
  wE := View.ld (iblk m c 5 t) (Rect.unit ![0, 0] ![512, 2304] inb_S512x2304_S512x2304_0_0)
  wO := View.ld (iblk m c 6 t) (Rect.unit ![0, 0] ![256, 768] inb_S256x768_S256x768_0_0)
  wS := View.ld (iblk m c 7 t) (Rect.unit ![0, 0] ![256, 1536] inb_S256x1536_S256x1536_0_0)
  wA := View.ld (iblk m c 8 t) (Rect.unit ![0, 0] ![256, 1536] inb_S256x1536_S256x1536_0_0)

/-- What its second utterance loads. -/
def second (t : Fin cfg0.N) : Inputs where
  e := View.ld (iblk m c 0 t) (Rect.unit ![1, 0, 0] ![1, 256, 512] inb_S2x256x512_S1x256x512_1_0_0)
  o := View.ld (iblk m c 1 t) (Rect.unit ![1, 0, 0] ![1, 10, 256] inb_S2x10x256_S1x10x256_1_0_0)
  q := View.ld (iblk m c 2 t) (Rect.unit ![1, 0, 0] ![1, 10, 256] inb_S2x10x256_S1x10x256_1_0_0)
  wE := View.ld (iblk m c 5 t) (Rect.unit ![0, 0] ![512, 2304] inb_S512x2304_S512x2304_0_0)
  wO := View.ld (iblk m c 6 t) (Rect.unit ![0, 0] ![256, 768] inb_S256x768_S256x768_0_0)
  wS := View.ld (iblk m c 7 t) (Rect.unit ![0, 0] ![256, 1536] inb_S256x1536_S256x1536_0_0)
  wA := View.ld (iblk m c 8 t) (Rect.unit ![0, 0] ![256, 1536] inb_S256x1536_S256x1536_0_0)

/-- A load of a whole matrix is the matrix. -/
theorem ld_whole2 {M N : ℕ} (inb) (X : (⟨2, ![M, N]⟩ : Shape).Idx → EReal) :
    View.ld (Val := Elt Ideal) (e' := .f32) X (Rect.unit (s := ⟨2, ![M, N]⟩) ![0, 0] ![M, N] inb) = X :=
  View.ld_unit_zero (by funext a; match a with | ⟨0, _⟩ => rfl | ⟨1, _⟩ => rfl) _ _

/-- Two utterances' stores, the second's loads after the first's, leave the memory after both. -/
theorem two (u v : Inputs) (A : Vec Ideal S2560x256 .f32) (w : View sig .tc .vmem S2560x256 .f32)
    (L : List (View.Piece (Elt Ideal) S2560x256 .f32))
    (inb : ∀ a, (![0, 0] : Fin 2 → ℕ) a + (![2560, 256] : Fin 2 → ℕ) a ≤ S2560x256.size a) :
    View.canon (pieces1 v (w.readCov (pieces0 u A ++ L) (Rect.unit (s := S2560x256) ![0, 0] ![2560, 256] inb).toLoadRect) ++ (pieces0 u A ++ L))
      = next v (next u A) := by
  rw [canon1]
  exact congrArg (next v) (load0 u A w L inb)

/-- A load of a matrix just filled is the filling. -/
theorem fill (w : View sig .tc .vmem S2560x256 .f32) (Z : Vec Ideal S2560x256 .f32) :
    w.readCov [(⟨Rect.unit ![0, 0] ![2560, 256] inb_S2560x256_S2560x256_0_0, Z⟩ : View.Piece (Elt Ideal) S2560x256 .f32)]
      (Rect.unit (s := S2560x256) ![0, 0] ![2560, 256] inb_S2560x256_S2560x256_0_0).toLoadRect = Z :=
  View.readCov_unit_zero w (by funext a; match a with | ⟨0, _⟩ => rfl | ⟨1, _⟩ => rfl) inb_S2560x256_S2560x256_0_0 Z

theorem point_B (t : Fin cfg0.N) (h0 : ¬ t.val % 10 = 0) (h1 : ¬ t.val % 10 = 9) :
    (outsAt0 m c t.val t.isLt).2
      = next (second m c t) (next (first m c t) (outsAt0 m c (t.val - 1) (by have := t.isLt; omega)).2) := by
  rw [outsAt0_B m c t h0 h1]
  dsimp only
  unfold out0_B_13
  rw [View.read_writes_eq_canon _ _ _ (cover0_B_13 _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_5 t).read_unread,
    (hs0_6 t).read_unread, (hs0_7 t).read_unread, (hs0_8 t).read_unread, (hs0_13 t).read_unread]
  generalize (outsAt0 m c (t.val - 1) _).2 = A
  unfold first second
  generalize View.ld (iblk m c 0 t) (Rect.unit ![0, 0, 0] ![1, 256, 512] inb_S2x256x512_S1x256x512_0_0_0) = e0
  generalize View.ld (iblk m c 1 t) (Rect.unit ![0, 0, 0] ![1, 10, 256] inb_S2x10x256_S1x10x256_0_0_0) = o0
  generalize View.ld (iblk m c 2 t) (Rect.unit ![0, 0, 0] ![1, 10, 256] inb_S2x10x256_S1x10x256_0_0_0) = q0
  generalize View.ld (iblk m c 0 t) (Rect.unit ![1, 0, 0] ![1, 256, 512] inb_S2x256x512_S1x256x512_1_0_0) = e1
  generalize View.ld (iblk m c 1 t) (Rect.unit ![1, 0, 0] ![1, 10, 256] inb_S2x10x256_S1x10x256_1_0_0) = o1
  generalize View.ld (iblk m c 2 t) (Rect.unit ![1, 0, 0] ![1, 10, 256] inb_S2x10x256_S1x10x256_1_0_0) = q1
  generalize View.ld (iblk m c 5 t) (Rect.unit ![0, 0] ![512, 2304] inb_S512x2304_S512x2304_0_0) = wE
  generalize View.ld (iblk m c 6 t) (Rect.unit ![0, 0] ![256, 768] inb_S256x768_S256x768_0_0) = wO
  generalize View.ld (iblk m c 7 t) (Rect.unit ![0, 0] ![256, 1536] inb_S256x1536_S256x1536_0_0) = wS
  generalize View.ld (iblk m c 8 t) (Rect.unit ![0, 0] ![256, 1536] inb_S256x1536_S256x1536_0_0) = wA
  have hA := ld_whole2 inb_S2560x256_S2560x256_0_0 A
  generalize View.ld A (Rect.unit ![0, 0] ![2560, 256] inb_S2560x256_S2560x256_0_0) = A' at hA ⊢
  subst hA
  exact two ⟨e0, o0, q0, wE, wO, wS, wA⟩ ⟨e1, o1, q1, wE, wO, wS, wA⟩ A' (ms0_13 t).view [] _

/-- The first point starts on zeros. -/
theorem point_A (t : Fin cfg0.N) (h0 : t.val % 10 = 0) (h1 : ¬ t.val % 10 = 9) :
    (outsAt0 m c t.val t.isLt).2 = next (second m c t) (next (first m c t) (k0_pay10 (F := Ideal))) := by
  rw [outsAt0_A m c t h0 h1]
  dsimp only
  unfold out0_A_13
  rw [View.read_writes_eq_canon _ _ _ (cover0_A_13 _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_5 t).read_unread,
    (hs0_6 t).read_unread, (hs0_7 t).read_unread, (hs0_8 t).read_unread, (hs0_13 t).read_unread]
  unfold first second
  generalize View.ld (iblk m c 0 t) (Rect.unit ![0, 0, 0] ![1, 256, 512] inb_S2x256x512_S1x256x512_0_0_0) = e0
  generalize View.ld (iblk m c 1 t) (Rect.unit ![0, 0, 0] ![1, 10, 256] inb_S2x10x256_S1x10x256_0_0_0) = o0
  generalize View.ld (iblk m c 2 t) (Rect.unit ![0, 0, 0] ![1, 10, 256] inb_S2x10x256_S1x10x256_0_0_0) = q0
  generalize View.ld (iblk m c 0 t) (Rect.unit ![1, 0, 0] ![1, 256, 512] inb_S2x256x512_S1x256x512_1_0_0) = e1
  generalize View.ld (iblk m c 1 t) (Rect.unit ![1, 0, 0] ![1, 10, 256] inb_S2x10x256_S1x10x256_1_0_0) = o1
  generalize View.ld (iblk m c 2 t) (Rect.unit ![1, 0, 0] ![1, 10, 256] inb_S2x10x256_S1x10x256_1_0_0) = q1
  generalize View.ld (iblk m c 5 t) (Rect.unit ![0, 0] ![512, 2304] inb_S512x2304_S512x2304_0_0) = wE
  generalize View.ld (iblk m c 6 t) (Rect.unit ![0, 0] ![256, 768] inb_S256x768_S256x768_0_0) = wO
  generalize View.ld (iblk m c 7 t) (Rect.unit ![0, 0] ![256, 1536] inb_S256x1536_S256x1536_0_0) = wS
  generalize View.ld (iblk m c 8 t) (Rect.unit ![0, 0] ![256, 1536] inb_S256x1536_S256x1536_0_0) = wA
  generalize k0_pay10 (F := Ideal) = Z
  rw [fill (ms0_13 t).view Z]
  exact two ⟨e0, o0, q0, wE, wO, wS, wA⟩ ⟨e1, o1, q1, wE, wO, wS, wA⟩ Z (ms0_13 t).view
    [⟨Rect.unit ![0, 0] ![2560, 256] inb_S2560x256_S2560x256_0_0, Z⟩] _

theorem point_C (t : Fin cfg0.N) (h0 : ¬ t.val % 10 = 0) (h1 : t.val % 10 = 9) :
    (outsAt0 m c t.val t.isLt).2
      = next (second m c t) (next (first m c t) (outsAt0 m c (t.val - 1) (by have := t.isLt; omega)).2) := by
  rw [outsAt0_C m c t h0 h1]
  dsimp only
  unfold out0_C_13
  rw [View.read_writes_eq_canon _ _ _ (cover0_C_13 _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_5 t).read_unread,
    (hs0_6 t).read_unread, (hs0_7 t).read_unread, (hs0_8 t).read_unread, (hs0_13 t).read_unread]
  generalize (outsAt0 m c (t.val - 1) _).2 = A
  unfold first second
  generalize View.ld (iblk m c 0 t) (Rect.unit ![0, 0, 0] ![1, 256, 512] inb_S2x256x512_S1x256x512_0_0_0) = e0
  generalize View.ld (iblk m c 1 t) (Rect.unit ![0, 0, 0] ![1, 10, 256] inb_S2x10x256_S1x10x256_0_0_0) = o0
  generalize View.ld (iblk m c 2 t) (Rect.unit ![0, 0, 0] ![1, 10, 256] inb_S2x10x256_S1x10x256_0_0_0) = q0
  generalize View.ld (iblk m c 0 t) (Rect.unit ![1, 0, 0] ![1, 256, 512] inb_S2x256x512_S1x256x512_1_0_0) = e1
  generalize View.ld (iblk m c 1 t) (Rect.unit ![1, 0, 0] ![1, 10, 256] inb_S2x10x256_S1x10x256_1_0_0) = o1
  generalize View.ld (iblk m c 2 t) (Rect.unit ![1, 0, 0] ![1, 10, 256] inb_S2x10x256_S1x10x256_1_0_0) = q1
  generalize View.ld (iblk m c 5 t) (Rect.unit ![0, 0] ![512, 2304] inb_S512x2304_S512x2304_0_0) = wE
  generalize View.ld (iblk m c 6 t) (Rect.unit ![0, 0] ![256, 768] inb_S256x768_S256x768_0_0) = wO
  generalize View.ld (iblk m c 7 t) (Rect.unit ![0, 0] ![256, 1536] inb_S256x1536_S256x1536_0_0) = wS
  generalize View.ld (iblk m c 8 t) (Rect.unit ![0, 0] ![256, 1536] inb_S256x1536_S256x1536_0_0) = wA
  have hA := ld_whole2 inb_S2560x256_S2560x256_0_0 A
  generalize View.ld A (Rect.unit ![0, 0] ![2560, 256] inb_S2560x256_S2560x256_0_0) = A' at hA ⊢
  subst hA
  exact two ⟨e0, o0, q0, wE, wO, wS, wA⟩ ⟨e1, o1, q1, wE, wO, wS, wA⟩ A' (ms0_13 t).view [] _

end Cert.Proof.KPoint

end
-- ==== Proof.KHost.lean ====
/-
  The arrays the kernel's pipeline reads, as @main prepares them from its arguments, each read at an index.
-/
module

public import proofs.«01_k».proof.Proof.KStep

@[expose] public section

set_option maxRecDepth 16384

noncomputable section

namespace Cert.Proof.KHost

open Idealize.ShloMosaic Idealize.ShloMosaic.Tactic Cert.KernelIdeal Cert.KernelIdeal.Gen

variable (m : (ℓ : Loc nD τ sig) → Buf (Elt Ideal) ℓ) (c : Dev nD)

/-! ### The arguments -/

def enc : Vec Ideal S256x20x512 .f32 := m (c, Proc.tc.devRef main_arg0)
def users : IVec S256x20x2 32 := m (c, Proc.tc.devRef main_arg1)
def resp : IVec S256 32 := m (c, Proc.tc.devRef main_arg2)
def ihS : Vec Ideal S768x768 .f32 := m (c, Proc.tc.devRef main_arg3)
def hhS : Vec Ideal S256x768 .f32 := m (c, Proc.tc.devRef main_arg4)
def ihA : Vec Ideal S768x768 .f32 := m (c, Proc.tc.devRef main_arg7)
def hhA : Vec Ideal S256x768 .f32 := m (c, Proc.tc.devRef main_arg8)
def ihO : Vec Ideal S512x768 .f32 := m (c, Proc.tc.devRef main_arg11)
def hhO : Vec Ideal S256x768 .f32 := m (c, Proc.tc.devRef main_arg12)
def lay1 : Vec Ideal S512x256 .f32 := m (c, Proc.tc.devRef main_arg15)
def lay2 : Vec Ideal S9x9 .f32 := m (c, Proc.tc.devRef main_arg17)

/-! ### The arrays -/

def encT : Vec Ideal S20x256x512 .bf16 := V m c main_v70
def spk : Vec Ideal S20x10x256 .f32 := V m c main_v48
def adr : Vec Ideal S20x10x256 .f32 := V m c main_v54
def rsp : Vec Ideal S10x256 .f32 := V m c main_v61
def low : Vec Ideal S9x256 .f32 := V m c main_v68
def wE : Vec Ideal S512x2304 .bf16 := V m c main_v3
def wO : Vec Ideal S256x768 .bf16 := V m c main_v36
def wS : Vec Ideal S256x1536 .bf16 := V m c main_v6
def wA : Vec Ideal S256x1536 .bf16 := V m c main_v9
def w1 : Vec Ideal S256x256 .f32 := V m c main_v35
def vs : Vec Ideal S8x32x256 .f32 := V m c main_v34
def w2 : Vec Ideal S9x9 .f32 := V m c main_arg17

/-- A comparison's outcome as a number. -/
theorem mark_eq (x y : BitVec 32) : FloatOps.uitofp (F := Ideal) .f32 (IntOp.cmpi .eq x y) = if x = y then (1 : EReal) else 0 := by
  by_cases h : x = y
  · rw [if_pos h]; simp [h, IntOp.cmpi, FloatOps.uitofp]
  · rw [if_neg h]; simp [h, IntOp.cmpi, FloatOps.uitofp]

theorem mark_lt (x y : BitVec 32) : FloatOps.uitofp (F := Ideal) .f32 (IntOp.cmpi .slt x y) = if x.slt y then (1 : EReal) else 0 := by
  by_cases h : x.slt y
  · rw [if_pos h]; simp [h, IntOp.cmpi, FloatOps.uitofp]
  · rw [if_neg h]; simp [h, IntOp.cmpi, FloatOps.uitofp]

theorem encT_apply (i : Fin 20) (b : Fin 256) (k : Fin 512) : encT m c (ix3 i b k) = enc m c (ix3 b i k) := by
  unfold encT enc
  simp only [V, V0, List.flatten_cons, List.flatten_nil, List.append_nil]
  after_results
  pointwise []

/-- The utterances' roles in column `k` of the users, utterance first. -/
def col (k : ℕ) (h : S256x20x2.Slices ![0, 0, k] S256x20x1) : IVec S20x256 32 :=
  transpose S20x256 [1, 0] (shapeCast S256x20 (extractStridedSlice S256x20x1 ![0, 0, k] (users m c) h) shapeCasts_S256x20x1_S256x20)
    transposes_S256x20_S20x256_1_0

/-- The marks of those roles. -/
def marks (x : IVec S20x256 32) : Vec Ideal S20x10x256 .f32 :=
  uitofp (F := Ideal) .f32 (cmpi .eq
    (broadcastInDim S20x10x256 ![0, 1, 2] bcast_S20x1x256_S20x10x256_0_1_2 (broadcastInDim S20x1x256 ![0, 2] bcast_S20x256_S20x1x256_0_2 x))
    (broadcastInDim S20x10x256 ![0, 1, 2] bcast_S1x10x1_S20x10x256_0_1_2 (broadcastInDim S1x10x1 ![1] bcast_S10_S1x10x1_1 (iotaInDim S10 32 0))))

theorem marks_apply (x : IVec S20x256 32) (i : Fin 20) (r : Fin 10) (b : Fin 256) :
    marks x (ix3 i r b) = if x (ix2 i b) = BitVec.ofNat 32 r.val then (1 : EReal) else 0 := by
  pointwise [marks]
  exact mark_eq _ _

theorem spk_apply (i : Fin 20) (r : Fin 10) (b : Fin 256) :
    spk m c (ix3 i r b) = if users m c (ix3 b i 0) = BitVec.ofNat 32 r.val then (1 : EReal) else 0 := by
  have h : spk m c = marks (col m c 0 slices_S256x20x2_S256x20x1_0_0_0) := by
    unfold spk marks col users
    simp only [V, V0, List.flatten_cons, List.flatten_nil, List.append_nil]
    after_results
    rfl
  rw [h, marks_apply]
  pointwise [col]

theorem adr_apply (i : Fin 20) (r : Fin 10) (b : Fin 256) :
    adr m c (ix3 i r b) = if users m c (ix3 b i 1) = BitVec.ofNat 32 r.val then (1 : EReal) else 0 := by
  have h : adr m c = marks (col m c 1 slices_S256x20x2_S256x20x1_0_0_1) := by
    unfold adr marks col users
    simp only [V, V0, List.flatten_cons, List.flatten_nil, List.append_nil]
    after_results
    rfl
  rw [h, marks_apply]
  pointwise [col]

theorem rsp_apply (r : Fin 10) (b : Fin 256) :
    rsp m c (ix2 r b) = if BitVec.ofNat 32 r.val = resp m c (ix1 b) then (1 : EReal) else 0 := by
  unfold rsp resp
  simp only [V, V0, List.flatten_cons, List.flatten_nil, List.append_nil]
  after_results
  pointwise []
  exact mark_eq _ _

theorem low_apply (j : Fin 9) (b : Fin 256) :
    low m c (ix2 j b) = if (BitVec.ofNat 32 j.val).slt (resp m c (ix1 b)) then (1 : EReal) else 0 := by
  unfold low resp
  simp only [V, V0, List.flatten_cons, List.flatten_nil, List.append_nil]
  after_results
  pointwise []
  exact mark_lt _ _

/-- The encoding's weights side by side: the others' cell, the speaker's, the addressee's. -/
theorem wE_eq : wE m c
    = truncf (F := Ideal) .bf16 (concatenate S512x2304 1 [⟨S512x768, ihO m c⟩,
        ⟨S512x768, extractStridedSlice S512x768 ![0, 0] (ihS m c) slices_S768x768_S512x768_0_0⟩,
        ⟨S512x768, extractStridedSlice S512x768 ![0, 0] (ihA m c) slices_S768x768_S512x768_0_0⟩]
        concatenates_S512x768_S512x768_S512x768_S512x2304_d1) bitsLt_bf16_f32 := by
  unfold wE ihO ihS ihA
  simp only [V, V0, List.flatten_cons, List.flatten_nil, List.append_nil]
  after_results
  rfl

theorem wE_o (k : Fin 512) (n : Fin 768) : wE m c (ix2 k ⟨n.val, by omega⟩) = ihO m c (ix2 k n) := by
  rw [wE_eq]
  pointwise []

theorem wE_s (k : Fin 512) (n : Fin 768) : wE m c (ix2 k ⟨768 + n.val, by omega⟩) = ihS m c (ix2 ⟨k.val, by omega⟩ n) := by
  rw [wE_eq]
  pointwise []

theorem wE_a (k : Fin 512) (n : Fin 768) : wE m c (ix2 k ⟨1536 + n.val, by omega⟩) = ihA m c (ix2 ⟨k.val, by omega⟩ n) := by
  rw [wE_eq]
  pointwise []
  rw [dif_neg (by omega), dif_neg (by omega)]
  exact congrArg (fun i => ihA m c (ix2 ⟨k.val, by omega⟩ i)) (Fin.ext (by show 1536 + n.val - 768 - 768 = n.val; omega))

theorem wS_eq : wS m c
    = truncf (F := Ideal) .bf16 (concatenate S256x1536 1 [⟨S256x768, hhS m c⟩,
        ⟨S256x768, extractStridedSlice S256x768 ![512, 0] (ihA m c) slices_S768x768_S256x768_512_0⟩]
        concatenates_S256x768_S256x768_S256x1536_d1) bitsLt_bf16_f32 := by
  unfold wS hhS ihA
  simp only [V, V0, List.flatten_cons, List.flatten_nil, List.append_nil]
  after_results

theorem wS_s (k : Fin 256) (n : Fin 768) : wS m c (ix2 k ⟨n.val, by omega⟩) = hhS m c (ix2 k n) := by
  rw [wS_eq]
  pointwise []

theorem wS_a (k : Fin 256) (n : Fin 768) : wS m c (ix2 k ⟨768 + n.val, by omega⟩) = ihA m c (ix2 ⟨512 + k.val, by omega⟩ n) := by
  rw [wS_eq]
  pointwise []

theorem wA_eq : wA m c
    = truncf (F := Ideal) .bf16 (concatenate S256x1536 1 [
        ⟨S256x768, extractStridedSlice S256x768 ![512, 0] (ihS m c) slices_S768x768_S256x768_512_0⟩, ⟨S256x768, hhA m c⟩]
        concatenates_S256x768_S256x768_S256x1536_d1) bitsLt_bf16_f32 := by
  unfold wA hhA ihS
  simp only [V, V0, List.flatten_cons, List.flatten_nil, List.append_nil]
  after_results

theorem wA_s (k : Fin 256) (n : Fin 768) : wA m c (ix2 k ⟨n.val, by omega⟩) = ihS m c (ix2 ⟨512 + k.val, by omega⟩ n) := by
  rw [wA_eq]
  pointwise []

theorem wA_a (k : Fin 256) (n : Fin 768) : wA m c (ix2 k ⟨768 + n.val, by omega⟩) = hhA m c (ix2 k n) := by
  rw [wA_eq]
  pointwise []

theorem wO_apply (k : Fin 256) (n : Fin 768) : wO m c (ix2 k n) = hhO m c (ix2 k n) := by
  unfold wO hhO
  simp only [V, V0, List.flatten_cons, List.flatten_nil, List.append_nil]
  after_results
  pointwise []

theorem w1_apply (k d : Fin 256) : w1 m c (ix2 k d) = lay1 m c (ix2 ⟨k.val, by omega⟩ d) := by
  unfold w1 lay1
  simp only [V, V0, List.flatten_cons, List.flatten_nil, List.append_nil]
  after_results
  pointwise []

theorem w2_eq : w2 m c = lay2 m c := by
  unfold w2 lay2
  simp only [V, V0, List.flatten_cons, List.flatten_nil, List.append_nil]
  after_results

/-- Every eighth of the first layer's last 256 rows, from row `j` on. -/
def group (j : ℕ) (h : S256x256.SlicesBy ![j, 0] ![8, 1] S32x256) : Vec Ideal S1x32x256 .f32 :=
  broadcastInDim S1x32x256 ![1, 2] bcast_S32x256_S1x32x256_1_2
    (Host.slice S32x256 ![j, 0] ![8, 1] (extractStridedSlice S256x256 ![256, 0] (lay1 m c) slices_S512x256_S256x256_256_0) h)

theorem group_apply (j : Fin 8) (h) (k : Fin 32) (d : Fin 256) :
    group m c j.val h (ix3 0 k d) = lay1 m c (ix2 ⟨256 + (k.val * 8 + j.val), by omega⟩ d) := by
  pointwise [group]
  exact congrArg (fun i => lay1 m c (ix2 i d)) (Fin.ext (by show 256 + (j.val + 8 * k.val) = 256 + (k.val * 8 + j.val); omega))

theorem vs_eq : vs m c = concatenate S8x32x256 0 [⟨S1x32x256, group m c 0 slicesBy_S256x256_S32x256_0s8_0s1⟩,
    ⟨S1x32x256, group m c 1 slicesBy_S256x256_S32x256_1s8_0s1⟩, ⟨S1x32x256, group m c 2 slicesBy_S256x256_S32x256_2s8_0s1⟩,
    ⟨S1x32x256, group m c 3 slicesBy_S256x256_S32x256_3s8_0s1⟩, ⟨S1x32x256, group m c 4 slicesBy_S256x256_S32x256_4s8_0s1⟩,
    ⟨S1x32x256, group m c 5 slicesBy_S256x256_S32x256_5s8_0s1⟩, ⟨S1x32x256, group m c 6 slicesBy_S256x256_S32x256_6s8_0s1⟩,
    ⟨S1x32x256, group m c 7 slicesBy_S256x256_S32x256_7s8_0s1⟩]
    concatenates_S1x32x256_S1x32x256_S1x32x256_S1x32x256_S1x32x256_S1x32x256_S1x32x256_S1x32x256_S8x32x256_d0 := by
  unfold vs group lay1
  simp only [V, V0, List.flatten_cons, List.flatten_nil, List.append_nil]
  after_results
  rfl

theorem vs_apply (j : Fin 8) (k : Fin 32) (d : Fin 256) :
    vs m c (ix3 j k d) = lay1 m c (ix2 ⟨256 + (k.val * 8 + j.val), by omega⟩ d) := by
  rw [vs_eq]
  match j with
  | 0 => exact Eq.trans (b := group m c 0 slicesBy_S256x256_S32x256_0s8_0s1 (ix3 0 k d)) (by pointwise []) (group_apply m c 0 _ k d)
  | 1 => exact Eq.trans (b := group m c 1 slicesBy_S256x256_S32x256_1s8_0s1 (ix3 0 k d)) (by pointwise []) (group_apply m c 1 _ k d)
  | 2 => exact Eq.trans (b := group m c 2 slicesBy_S256x256_S32x256_2s8_0s1 (ix3 0 k d)) (by pointwise []) (group_apply m c 2 _ k d)
  | 3 => exact Eq.trans (b := group m c 3 slicesBy_S256x256_S32x256_3s8_0s1 (ix3 0 k d)) (by pointwise []) (group_apply m c 3 _ k d)
  | 4 => exact Eq.trans (b := group m c 4 slicesBy_S256x256_S32x256_4s8_0s1 (ix3 0 k d)) (by pointwise []) (group_apply m c 4 _ k d)
  | 5 => exact Eq.trans (b := group m c 5 slicesBy_S256x256_S32x256_5s8_0s1 (ix3 0 k d)) (by pointwise []) (group_apply m c 5 _ k d)
  | 6 => exact Eq.trans (b := group m c 6 slicesBy_S256x256_S32x256_6s8_0s1 (ix3 0 k d)) (by pointwise []) (group_apply m c 6 _ k d)
  | 7 => exact Eq.trans (b := group m c 7 slicesBy_S256x256_S32x256_7s8_0s1 (ix3 0 k d)) (by pointwise []) (group_apply m c 7 _ k d)

end Cert.Proof.KHost

end
-- ==== Proof.KBlock.lean ====
/-
  The arrays the kernel's pipeline reads, as @main prepares them from its arguments, and its blocks of them.
-/
module

public import proofs.«01_k».proof.Proof.KStep

@[expose] public section

set_option maxRecDepth 16384

noncomputable section

namespace Cert.Proof.KHost

open Idealize.ShloMosaic Idealize.ShloMosaic.Tactic Cert.KernelIdeal Cert.KernelIdeal.Gen Cert.Proof.KPay Cert.Proof.KStep

variable (m : (ℓ : Loc nD τ sig) → Buf (Elt Ideal) ℓ) (c : Dev nD)

/-! ### The blocks: two utterances per point of the encodings and the marks, the other arrays whole -/

theorem coord (t : Fin cfg0.N) : (2 : ℕ) * t.val + 1 < 20 := by have := t.isLt; have : cfg0.N = 10 := N_0; omega

theorem transform_0 : ∀ t : Fin cfg0.N, cc0_transform_0 (grid0.coords t) = ![t.val, 0, 0] := by decide
theorem transform_1 : ∀ t : Fin cfg0.N, cc0_transform_1 (grid0.coords t) = ![t.val, 0, 0] := by decide
theorem transform_2 : ∀ t : Fin cfg0.N, cc0_transform_2 (grid0.coords t) = ![t.val, 0, 0] := by decide

theorem block_0 (t : Fin cfg0.N) (a : Fin 2) (i : Fin 256) (j : Fin 512) :
    (iblk m c 0 t : Vec Ideal S2x256x512 .bf16) (ix3 a i j)
      = (V m c main_v70 : Vec Ideal S20x256x512 .bf16) (ix3 ⟨2 * t.val + a.val, by have := coord t; omega⟩ i j) := by
  unfold iblk
  rw [View.read_apply]
  refine congrArg (V m c main_v70 : Vec Ideal S20x256x512 .bf16) (funext fun x => Fin.ext ?_)
  match x with
  | ⟨0, _⟩ =>
    show cc0_transform_0 (grid0.coords t) 0 * 2 + 1 * a.val = 2 * t.val + a.val
    rw [transform_0]; show t.val * 2 + 1 * a.val = _; omega
  | ⟨1, _⟩ =>
    show cc0_transform_0 (grid0.coords t) 1 * 256 + 1 * i.val = i.val
    rw [transform_0]; show 0 * 256 + 1 * i.val = _; omega
  | ⟨2, _⟩ =>
    show cc0_transform_0 (grid0.coords t) 2 * 512 + 1 * j.val = j.val
    rw [transform_0]; show 0 * 512 + 1 * j.val = _; omega

theorem block_1 (t : Fin cfg0.N) (a : Fin 2) (i : Fin 10) (j : Fin 256) :
    (iblk m c 1 t : Vec Ideal S2x10x256 .f32) (ix3 a i j)
      = (V m c main_v48 : Vec Ideal S20x10x256 .f32) (ix3 ⟨2 * t.val + a.val, by have := coord t; omega⟩ i j) := by
  unfold iblk
  rw [View.read_apply]
  refine congrArg (V m c main_v48 : Vec Ideal S20x10x256 .f32) (funext fun x => Fin.ext ?_)
  match x with
  | ⟨0, _⟩ =>
    show cc0_transform_1 (grid0.coords t) 0 * 2 + 1 * a.val = 2 * t.val + a.val
    rw [transform_1]; show t.val * 2 + 1 * a.val = _; omega
  | ⟨1, _⟩ =>
    show cc0_transform_1 (grid0.coords t) 1 * 10 + 1 * i.val = i.val
    rw [transform_1]; show 0 * 10 + 1 * i.val = _; omega
  | ⟨2, _⟩ =>
    show cc0_transform_1 (grid0.coords t) 2 * 256 + 1 * j.val = j.val
    rw [transform_1]; show 0 * 256 + 1 * j.val = _; omega

theorem block_2 (t : Fin cfg0.N) (a : Fin 2) (i : Fin 10) (j : Fin 256) :
    (iblk m c 2 t : Vec Ideal S2x10x256 .f32) (ix3 a i j)
      = (V m c main_v54 : Vec Ideal S20x10x256 .f32) (ix3 ⟨2 * t.val + a.val, by have := coord t; omega⟩ i j) := by
  unfold iblk
  rw [View.read_apply]
  refine congrArg (V m c main_v54 : Vec Ideal S20x10x256 .f32) (funext fun x => Fin.ext ?_)
  match x with
  | ⟨0, _⟩ =>
    show cc0_transform_2 (grid0.coords t) 0 * 2 + 1 * a.val = 2 * t.val + a.val
    rw [transform_2]; show t.val * 2 + 1 * a.val = _; omega
  | ⟨1, _⟩ =>
    show cc0_transform_2 (grid0.coords t) 1 * 10 + 1 * i.val = i.val
    rw [transform_2]; show 0 * 10 + 1 * i.val = _; omega
  | ⟨2, _⟩ =>
    show cc0_transform_2 (grid0.coords t) 2 * 256 + 1 * j.val = j.val
    rw [transform_2]; show 0 * 256 + 1 * j.val = _; omega

theorem block_3 (t : Fin cfg0.N) : (iblk m c 3 t : Vec Ideal S10x256 .f32) = V m c main_v61 := by
  funext i
  unfold iblk
  rw [View.read_apply]
  refine congrArg (V m c main_v61 : Vec Ideal S10x256 .f32) (funext fun x => Fin.ext ?_)
  match x with
  | ⟨0, _⟩ => show 0 * 10 + 1 * (i 0).val = (i 0).val; omega
  | ⟨1, _⟩ => show 0 * 256 + 1 * (i 1).val = (i 1).val; omega

theorem block_4 (t : Fin cfg0.N) : (iblk m c 4 t : Vec Ideal S9x256 .f32) = V m c main_v68 := by
  funext i
  unfold iblk
  rw [View.read_apply]
  refine congrArg (V m c main_v68 : Vec Ideal S9x256 .f32) (funext fun x => Fin.ext ?_)
  match x with
  | ⟨0, _⟩ => show 0 * 9 + 1 * (i 0).val = (i 0).val; omega
  | ⟨1, _⟩ => show 0 * 256 + 1 * (i 1).val = (i 1).val; omega

theorem block_5 (t : Fin cfg0.N) : (iblk m c 5 t : Vec Ideal S512x2304 .bf16) = V m c main_v3 := by
  funext i
  unfold iblk
  rw [View.read_apply]
  refine congrArg (V m c main_v3 : Vec Ideal S512x2304 .bf16) (funext fun x => Fin.ext ?_)
  match x with
  | ⟨0, _⟩ => show 0 * 512 + 1 * (i 0).val = (i 0).val; omega
  | ⟨1, _⟩ => show 0 * 2304 + 1 * (i 1).val = (i 1).val; omega

theorem block_6 (t : Fin cfg0.N) : (iblk m c 6 t : Vec Ideal S256x768 .bf16) = V m c main_v36 := by
  funext i
  unfold iblk
  rw [View.read_apply]
  refine congrArg (V m c main_v36 : Vec Ideal S256x768 .bf16) (funext fun x => Fin.ext ?_)
  match x with
  | ⟨0, _⟩ => show 0 * 256 + 1 * (i 0).val = (i 0).val; omega
  | ⟨1, _⟩ => show 0 * 768 + 1 * (i 1).val = (i 1).val; omega

theorem block_7 (t : Fin cfg0.N) : (iblk m c 7 t : Vec Ideal S256x1536 .bf16) = V m c main_v6 := by
  funext i
  unfold iblk
  rw [View.read_apply]
  refine congrArg (V m c main_v6 : Vec Ideal S256x1536 .bf16) (funext fun x => Fin.ext ?_)
  match x with
  | ⟨0, _⟩ => show 0 * 256 + 1 * (i 0).val = (i 0).val; omega
  | ⟨1, _⟩ => show 0 * 1536 + 1 * (i 1).val = (i 1).val; omega

theorem block_8 (t : Fin cfg0.N) : (iblk m c 8 t : Vec Ideal S256x1536 .bf16) = V m c main_v9 := by
  funext i
  unfold iblk
  rw [View.read_apply]
  refine congrArg (V m c main_v9 : Vec Ideal S256x1536 .bf16) (funext fun x => Fin.ext ?_)
  match x with
  | ⟨0, _⟩ => show 0 * 256 + 1 * (i 0).val = (i 0).val; omega
  | ⟨1, _⟩ => show 0 * 1536 + 1 * (i 1).val = (i 1).val; omega

theorem block_9 (t : Fin cfg0.N) : (iblk m c 9 t : Vec Ideal S256x256 .f32) = V m c main_v35 := by
  funext i
  unfold iblk
  rw [View.read_apply]
  refine congrArg (V m c main_v35 : Vec Ideal S256x256 .f32) (funext fun x => Fin.ext ?_)
  match x with
  | ⟨0, _⟩ => show 0 * 256 + 1 * (i 0).val = (i 0).val; omega
  | ⟨1, _⟩ => show 0 * 256 + 1 * (i 1).val = (i 1).val; omega

theorem block_10 (t : Fin cfg0.N) : (iblk m c 10 t : Vec Ideal S8x32x256 .f32) = V m c main_v34 := by
  funext i
  unfold iblk
  rw [View.read_apply]
  refine congrArg (V m c main_v34 : Vec Ideal S8x32x256 .f32) (funext fun x => Fin.ext ?_)
  match x with
  | ⟨0, _⟩ => show 0 * 8 + 1 * (i 0).val = (i 0).val; omega
  | ⟨1, _⟩ => show 0 * 32 + 1 * (i 1).val = (i 1).val; omega
  | ⟨2, _⟩ => show 0 * 256 + 1 * (i 2).val = (i 2).val; omega

theorem block_11 (t : Fin cfg0.N) : (iblk m c 11 t : Vec Ideal S9x9 .f32) = V m c main_arg17 := by
  funext i
  unfold iblk
  rw [View.read_apply]
  refine congrArg (V m c main_arg17 : Vec Ideal S9x9 .f32) (funext fun x => Fin.ext ?_)
  match x with
  | ⟨0, _⟩ => show 0 * 9 + 1 * (i 0).val = (i 0).val; omega
  | ⟨1, _⟩ => show 0 * 9 + 1 * (i 1).val = (i 1).val; omega

end Cert.Proof.KHost

end
-- ==== Proof.KRow.lean ====
/-
  One utterance of the kernel in one batch row: with marks that single out a speaker and an addressee, the blend of the three
  cells is the specification's step.
-/
module

public import proofs.«01_k».proof.Proof.KStep

@[expose] public section

noncomputable section

namespace Cert.Proof.KRow

open Idealize.ShloMosaic Cert.KernelIdeal Cert.KernelIdeal.Gen Cert.Proof.KPay Cert.Proof.KStep

/-- Batch row `b` of a flat memory. -/
def memOf (A : Vec Ideal S2560x256 .f32) (b : Fin 256) : Spec.Mem := fun r d => A (ix2 (row r b) d)

/-- What the inputs of an utterance are, in batch row `b`. -/
structure Says (u : Inputs) (b : Fin 256) (W : Spec.Weights) (e : Fin 512 → EReal) (s a : Fin 10) : Prop where
  enc : ∀ k, u.e (ix3 0 b k) = e k
  spk : ∀ r, u.o (ix3 0 r b) = if r = s then 1 else 0
  adr : ∀ r, u.q (ix3 0 r b) = if r = a then 1 else 0
  eo : ∀ (k : Fin 512) (n : Fin 768), u.wE (ix2 k ⟨n.val, by omega⟩) = W.ihO k n
  es : ∀ (k : Fin 512) (n : Fin 768), u.wE (ix2 k ⟨768 + n.val, by omega⟩) = W.ihS ⟨k.val, by omega⟩ n
  ea : ∀ (k : Fin 512) (n : Fin 768), u.wE (ix2 k ⟨1536 + n.val, by omega⟩) = W.ihA ⟨k.val, by omega⟩ n
  oo : ∀ (k : Fin 256) (n : Fin 768), u.wO (ix2 k n) = W.hhO k n
  ss : ∀ (k : Fin 256) (n : Fin 768), u.wS (ix2 k ⟨n.val, by omega⟩) = W.hhS k n
  sa : ∀ (k : Fin 256) (n : Fin 768), u.wS (ix2 k ⟨768 + n.val, by omega⟩) = W.ihA ⟨512 + k.val, by omega⟩ n
  sx : ∀ (k : Fin 256) (n : Fin 768), u.wA (ix2 k ⟨n.val, by omega⟩) = W.ihS ⟨512 + k.val, by omega⟩ n
  aa : ∀ (k : Fin 256) (n : Fin 768), u.wA (ix2 k ⟨768 + n.val, by omega⟩) = W.hhA k n

/-- A mark of one role picks its features. -/
theorem pick_eq (A : Vec Ideal S2560x256 .f32) (o : Vec Ideal S1x10x256 .f32) (b : Fin 256) (s : Fin 10)
    (h : ∀ r, o (ix3 0 r b) = if r = s then 1 else 0) (d : Fin 256) : pick A o b d = memOf A b s d := by
  unfold pick
  simp only [h, ite_mul, one_mul, zero_mul]
  exact (Finset.sum_ite_eq' _ _ _).trans (if_pos (Finset.mem_univ _))

variable {u : Inputs} {b : Fin 256} {W : Spec.Weights} {e : Fin 512 → EReal} {s a : Fin 10}

theorem sNew_eq (h : Says u b W e s a) (A : Vec Ideal S2560x256 .f32) (c : Fin 256) :
    sNew u A b c = Spec.newS W e (memOf A b s) (memOf A b a) c := by
  unfold sNew Spec.newS byPick gE Spec.inGates Spec.lin
  simp only [pick_eq A _ b _ h.spk, pick_eq A _ b _ h.adr, h.enc, h.es, h.sx, h.ss]

theorem aNew_eq (h : Says u b W e s a) (A : Vec Ideal S2560x256 .f32) (c : Fin 256) :
    aNew u A b c = Spec.newA W e (memOf A b s) (memOf A b a) c := by
  unfold aNew Spec.newA byPick gE Spec.inGates Spec.lin
  simp only [pick_eq A _ b _ h.spk, pick_eq A _ b _ h.adr, h.enc, h.ea, h.sa, h.aa]

theorem one_sub_one : (1 : EReal) - 1 = 0 := by rw [← EReal.coe_one, ← EReal.coe_sub]; simp

theorem next_eq (h : Says u b W e s a) (hne : s ≠ a) (A : Vec Ideal S2560x256 .f32) :
    memOf (next u A) b = Spec.step W e s a (memOf A b) := by
  funext r c
  show next u A (ix2 (row r b) c) = _
  rw [next_row]
  unfold nextAt cell Spec.step
  rw [sNew_eq h, aNew_eq h, h.spk, h.adr]
  unfold blend
  by_cases h1 : r = s
  · have h2 : ¬ r = a := fun h2 => hne (h1.symm.trans h2)
    simp only [if_pos h1, if_neg h2, sub_zero, one_sub_one, zero_mul, zero_add, one_mul, add_zero]
  · by_cases h2 : r = a
    · simp only [if_neg h1, if_pos h2, sub_zero, one_sub_one, zero_mul, zero_add, one_mul]
    · simp only [if_neg h1, if_neg h2, sub_zero, zero_mul, one_mul, add_zero]
      unfold Spec.newO gE Spec.lin memOf
      simp only [h.enc, h.eo, h.oo]

end Cert.Proof.KRow

end
-- ==== Proof.KSays.lean ====
/-
  What the loads of a grid point say: the utterances `2 t` and `2 t + 1` of every batch row, and the weights.
-/
module

public import proofs.«01_k».proof.Proof.Model
public import proofs.«01_k».proof.Proof.KPoint
public import proofs.«01_k».proof.Proof.KHost
public import proofs.«01_k».proof.Proof.KBlock
public import proofs.«01_k».proof.Proof.KRow

@[expose] public section

set_option maxRecDepth 16384

noncomputable section

namespace Cert.Proof.KSays

open Idealize.ShloMosaic Idealize.ShloMosaic.Tactic Cert.KernelIdeal Cert.KernelIdeal.Gen Cert.Proof.KStep Cert.Proof.KPoint
  Cert.Proof.KHost Cert.Proof.KRow Cert.Proof.Model

variable (m : (ℓ : Loc nD τ sig) → Buf (Elt Ideal) ℓ) (c : Dev nD)

/-- The weights the kernel is given. -/
def W : Spec.Weights where
  ihS := mat (ihS m c)
  hhS := mat (hhS m c)
  ihA := mat (ihA m c)
  hhA := mat (hhA m c)
  ihO := mat (ihO m c)
  hhO := mat (hhO m c)

/-- A load of one slab of a cube. -/
theorem ld_slab {e' : EltTy} {L M N : ℕ} (o : ℕ) (inb) (X : (⟨3, ![L, M, N]⟩ : Shape).Idx → Elt Ideal e') (ho : o < L)
    (i : Fin M) (j : Fin N) :
    View.ld (Val := Elt Ideal) (e' := e') X (Rect.unit (s := ⟨3, ![L, M, N]⟩) ![o, 0, 0] ![1, M, N] inb) (ix3 0 i j)
      = X (ix3 ⟨o, ho⟩ i j) := by
  refine congrArg X (funext fun x => Fin.ext ?_)
  match x with
  | ⟨0, _⟩ => show o + 1 * 0 = o; omega
  | ⟨1, _⟩ => show 0 + 1 * i.val = i.val; omega
  | ⟨2, _⟩ => show 0 + 1 * j.val = j.val; omega

/-- A load of a whole matrix of any element type. -/
theorem ld_whole {e' : EltTy} {M N : ℕ} (inb) (X : (⟨2, ![M, N]⟩ : Shape).Idx → Elt Ideal e') :
    View.ld (Val := Elt Ideal) (e' := e') X (Rect.unit (s := ⟨2, ![M, N]⟩) ![0, 0] ![M, N] inb) = X :=
  View.ld_unit_zero (by funext a; match a with | ⟨0, _⟩ => rfl | ⟨1, _⟩ => rfl) _ _

section weights
variable (t : Fin cfg0.N)

theorem ld_wE : View.ld (iblk m c 5 t) (Rect.unit ![0, 0] ![512, 2304] inb_S512x2304_S512x2304_0_0) = wE m c :=
  (ld_whole (e' := .bf16) _ (iblk m c 5 t)).trans (block_5 m c t)
theorem ld_wO : View.ld (iblk m c 6 t) (Rect.unit ![0, 0] ![256, 768] inb_S256x768_S256x768_0_0) = wO m c :=
  (ld_whole (e' := .bf16) _ (iblk m c 6 t)).trans (block_6 m c t)
theorem ld_wS : View.ld (iblk m c 7 t) (Rect.unit ![0, 0] ![256, 1536] inb_S256x1536_S256x1536_0_0) = wS m c :=
  (ld_whole (e' := .bf16) _ (iblk m c 7 t)).trans (block_7 m c t)
theorem ld_wA : View.ld (iblk m c 8 t) (Rect.unit ![0, 0] ![256, 1536] inb_S256x1536_S256x1536_0_0) = wA m c :=
  (ld_whole (e' := .bf16) _ (iblk m c 8 t)).trans (block_8 m c t)

end weights

/-- Slab `o` of a point's block of encodings is utterance `2 t + o`. -/
theorem ld_enc (t : Fin cfg0.N) (o : ℕ) (ho : o < 2) (inb) (b : Fin 256) (k : Fin 512) :
    View.ld (Val := Elt Ideal) (e' := .bf16) (iblk m c 0 t) (Rect.unit (s := S2x256x512) ![o, 0, 0] ![1, 256, 512] inb) (ix3 0 b k)
      = encT m c (ix3 ⟨2 * t.val + o, by have := coord t; omega⟩ b k) := by
  have h := block_0 m c t ⟨o, ho⟩ b k
  revert h
  generalize iblk m c 0 t = X
  intro h
  exact (ld_slab (e' := .bf16) o inb X ho b k).trans h

/-- Slab `o` of its block of speaker marks. -/
theorem ld_spk (t : Fin cfg0.N) (o : ℕ) (ho : o < 2) (inb) (r : Fin 10) (b : Fin 256) :
    View.ld (Val := Elt Ideal) (e' := .f32) (iblk m c 1 t) (Rect.unit (s := S2x10x256) ![o, 0, 0] ![1, 10, 256] inb) (ix3 0 r b)
      = spk m c (ix3 ⟨2 * t.val + o, by have := coord t; omega⟩ r b) := by
  have h := block_1 m c t ⟨o, ho⟩ r b
  revert h
  generalize iblk m c 1 t = X
  intro h
  exact (ld_slab (e' := .f32) o inb X ho r b).trans h

/-- Slab `o` of its block of addressee marks. -/
theorem ld_adr (t : Fin cfg0.N) (o : ℕ) (ho : o < 2) (inb) (r : Fin 10) (b : Fin 256) :
    View.ld (Val := Elt Ideal) (e' := .f32) (iblk m c 2 t) (Rect.unit (s := S2x10x256) ![o, 0, 0] ![1, 10, 256] inb) (ix3 0 r b)
      = adr m c (ix3 ⟨2 * t.val + o, by have := coord t; omega⟩ r b) := by
  have h := block_2 m c t ⟨o, ho⟩ r b
  revert h
  generalize iblk m c 2 t = X
  intro h
  exact (ld_slab (e' := .f32) o inb X ho r b).trans h

/-- Inputs made of utterance `i`'s encodings and marks and of the weights say utterance `i`. -/
theorem says_of (u : Inputs) (b : Fin 256) (i : Fin 20) (s a : ℕ → Fin 10) (hn : Names (users m c) b s a)
    (he : ∀ k, u.e (ix3 0 b k) = encT m c (ix3 i b k)) (ho : ∀ r, u.o (ix3 0 r b) = spk m c (ix3 i r b))
    (hq : ∀ r, u.q (ix3 0 r b) = adr m c (ix3 i r b)) (h1 : u.wE = wE m c) (h2 : u.wO = wO m c) (h3 : u.wS = wS m c)
    (h4 : u.wA = wA m c) : Says u b (W m c) (utter (enc m c) b i.val) (s i.val) (a i.val) where
  enc k := (he k).trans ((encT_apply m c i b k).trans (utter_of _ b i k).symm)
  spk r := by rw [ho, spk_apply, hn.spk]; simp only [word_eq]
  adr r := by rw [hq, adr_apply, hn.adr]; simp only [word_eq]
  eo k n := by rw [h1]; exact wE_o m c k n
  es k n := by rw [h1]; exact wE_s m c k n
  ea k n := by rw [h1]; exact wE_a m c k n
  oo k n := by rw [h2]; exact wO_apply m c k n
  ss k n := by rw [h3]; exact wS_s m c k n
  sa k n := by rw [h3]; exact wS_a m c k n
  sx k n := by rw [h4]; exact wA_s m c k n
  aa k n := by rw [h4]; exact wA_a m c k n

variable (t : Fin cfg0.N) (b : Fin 256) (s a : ℕ → Fin 10)

theorem says_first (hn : Names (users m c) b s a) :
    Says (first m c t) b (W m c) (utter (enc m c) b (2 * t.val)) (s (2 * t.val)) (a (2 * t.val)) := by
  unfold first
  refine says_of m c _ b ⟨2 * t.val + 0, by have := coord t; omega⟩ s a hn ?_ ?_ ?_ ?_ ?_ ?_ ?_ <;> dsimp only
  · exact fun k => ld_enc m c t 0 (by decide) _ b k
  · exact fun r => ld_spk m c t 0 (by decide) _ r b
  · exact fun r => ld_adr m c t 0 (by decide) _ r b
  · exact ld_wE m c t
  · exact ld_wO m c t
  · exact ld_wS m c t
  · exact ld_wA m c t

theorem says_second (hn : Names (users m c) b s a) :
    Says (second m c t) b (W m c) (utter (enc m c) b (2 * t.val + 1)) (s (2 * t.val + 1)) (a (2 * t.val + 1)) := by
  unfold second
  refine says_of m c _ b ⟨2 * t.val + 1, coord t⟩ s a hn ?_ ?_ ?_ ?_ ?_ ?_ ?_ <;> dsimp only
  · exact fun k => ld_enc m c t 1 (by decide) _ b k
  · exact fun r => ld_spk m c t 1 (by decide) _ r b
  · exact fun r => ld_adr m c t 1 (by decide) _ r b
  · exact ld_wE m c t
  · exact ld_wO m c t
  · exact ld_wS m c t
  · exact ld_wA m c t

end Cert.Proof.KSays

end
-- ==== Proof.KLast.lean ====
/-
  The last grid point of the kernel writes the selection head of the memory its two utterances leave.
-/
module

public import proofs.«01_k».proof.Proof.KPoint

@[expose] public section

set_option maxRecDepth 16384

noncomputable section

namespace Cert.Proof.KPoint

open Idealize.ShloMosaic Idealize.ShloMosaic.Tactic Cert.KernelIdeal Cert.KernelIdeal.Gen Cert.Proof.KPay Cert.Proof.KStep

variable (m : (ℓ : Loc nD τ sig) → Buf (Elt Ideal) ℓ) (c : Dev nD)

/-- What the head of a point writes for the memory `X`. -/
def headOf (t : Fin cfg0.N) (X : Vec Ideal S2560x256 .f32) : Vec Ideal S256x9 .f32 :=
  k0_pay9 (F := Ideal) (k0_pay3 X) (k0_pay4 X)
    (k0_pay8 (k0_pay4 X)
      (k0_pay5 X (View.ld (iblk m c 3 t) (Rect.unit ![0, 0] ![10, 256] inb_S10x256_S10x256_0_0))
        (View.ld (iblk m c 9 t) (Rect.unit ![0, 0] ![256, 256] inb_S256x256_S256x256_0_0))
        (View.ld (iblk m c 10 t) (Rect.unit ![0, 0, 0] ![1, 32, 256] inb_S8x32x256_S1x32x256_0_0_0))
        (View.ld (iblk m c 10 t) (Rect.unit ![1, 0, 0] ![1, 32, 256] inb_S8x32x256_S1x32x256_1_0_0)))
      (k0_pay6 X) (k0_pay7 X)
      (View.ld (iblk m c 10 t) (Rect.unit ![2, 0, 0] ![1, 32, 256] inb_S8x32x256_S1x32x256_2_0_0))
      (View.ld (iblk m c 10 t) (Rect.unit ![3, 0, 0] ![1, 32, 256] inb_S8x32x256_S1x32x256_3_0_0))
      (View.ld (iblk m c 10 t) (Rect.unit ![4, 0, 0] ![1, 32, 256] inb_S8x32x256_S1x32x256_4_0_0))
      (View.ld (iblk m c 10 t) (Rect.unit ![5, 0, 0] ![1, 32, 256] inb_S8x32x256_S1x32x256_5_0_0)))
    (View.ld (iblk m c 10 t) (Rect.unit ![6, 0, 0] ![1, 32, 256] inb_S8x32x256_S1x32x256_6_0_0))
    (View.ld (iblk m c 10 t) (Rect.unit ![7, 0, 0] ![1, 32, 256] inb_S8x32x256_S1x32x256_7_0_0))
    (View.ld (iblk m c 4 t) (Rect.unit ![0, 0] ![9, 256] inb_S9x256_S9x256_0_0))
    (View.ld (iblk m c 11 t) (Rect.unit ![0, 0] ![9, 9] inb_S9x9_S9x9_0_0))

attribute [local irreducible] k0_pay1 k0_pay2 k0_pay3 k0_pay4 k0_pay5 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71 k0_pay72 k0_pay73 k0_pay74 k0_pay75 k0_pay76 k0_pay77 k0_pay78 k0_pay79 k0_pay80 k0_pay81 k0_pay82 k0_pay83 k0_pay84 View.readCov

set_option maxHeartbeats 1000000 in
/-- The last point leaves the head of its memory in the first output. -/
theorem head_C (t : Fin cfg0.N) (h0 : ¬ t.val % 10 = 0) (h1 : t.val % 10 = 9) :
    (outsAt0 m c t.val t.isLt).1
      = headOf m c t (next (second m c t)
          (next (first m c t) (outsAt0 m c (t.val - 1) (by have := t.isLt; omega)).2)) := by
  rw [outsAt0_C m c t h0 h1]
  dsimp only
  unfold out0_C_12
  rw [View.read_writes_eq_canon _ _ _ (cover0_C_12 _ _ _ _ _ _ _ _ _ _ _ _ _ _ _ _ _ _ _ _ _ _ _ _ _ _ _ _ _ _ _ _ _ _ _ _ _ _ _ _ _ _ _ _ _)]
  unfold kernelRun0_C
  dsimp only
  sl_unfold_words
  simp only [View.readAt_eq_ld, (hs0_0 t).read_unread, (hs0_1 t).read_unread, (hs0_2 t).read_unread, (hs0_3 t).read_unread, (hs0_4 t).read_unread, (hs0_5 t).read_unread,
    (hs0_6 t).read_unread, (hs0_7 t).read_unread, (hs0_8 t).read_unread, (hs0_9 t).read_unread, (hs0_10 t).read_unread, (hs0_11 t).read_unread, (hs0_13 t).read_unread]
  generalize (outsAt0 m c (t.val - 1) _).2 = A
  generalize hX : View.readCov (Val := Elt Ideal) (ms0_13 t).view _ (Rect.unit ![0, 0] ![2560, 256] inb_S2560x256_S2560x256_0_0).toLoadRect = X
  have hX' : X = next (second m c t) (next (first m c t) A) := by
    rw [← hX]
    clear hX
    unfold first second
    generalize View.ld (iblk m c 0 t) (Rect.unit ![0, 0, 0] ![1, 256, 512] inb_S2x256x512_S1x256x512_0_0_0) = e0
    generalize View.ld (iblk m c 1 t) (Rect.unit ![0, 0, 0] ![1, 10, 256] inb_S2x10x256_S1x10x256_0_0_0) = o0
    generalize View.ld (iblk m c 2 t) (Rect.unit ![0, 0, 0] ![1, 10, 256] inb_S2x10x256_S1x10x256_0_0_0) = q0
    generalize View.ld (iblk m c 0 t) (Rect.unit ![1, 0, 0] ![1, 256, 512] inb_S2x256x512_S1x256x512_1_0_0) = e1
    generalize View.ld (iblk m c 1 t) (Rect.unit ![1, 0, 0] ![1, 10, 256] inb_S2x10x256_S1x10x256_1_0_0) = o1
    generalize View.ld (iblk m c 2 t) (Rect.unit ![1, 0, 0] ![1, 10, 256] inb_S2x10x256_S1x10x256_1_0_0) = q1
    generalize View.ld (iblk m c 5 t) (Rect.unit ![0, 0] ![512, 2304] inb_S512x2304_S512x2304_0_0) = wE
    generalize View.ld (iblk m c 6 t) (Rect.unit ![0, 0] ![256, 768] inb_S256x768_S256x768_0_0) = wO
    generalize View.ld (iblk m c 7 t) (Rect.unit ![0, 0] ![256, 1536] inb_S256x1536_S256x1536_0_0) = wS
    generalize View.ld (iblk m c 8 t) (Rect.unit ![0, 0] ![256, 1536] inb_S256x1536_S256x1536_0_0) = wA
    have hA := ld_whole2 inb_S2560x256_S2560x256_0_0 A
    generalize View.ld A (Rect.unit ![0, 0] ![2560, 256] inb_S2560x256_S2560x256_0_0) = A' at hA ⊢
    subst hA
    exact (load1 ⟨e1, o1, q1, wE, wO, wS, wA⟩ _ (ms0_13 t).view (pieces0 ⟨e0, o0, q0, wE, wO, wS, wA⟩ A' ++ []) _).trans
      (congrArg (next _) (load0 ⟨e0, o0, q0, wE, wO, wS, wA⟩ A' (ms0_13 t).view [] _))
  clear hX
  rw [← hX']
  exact View.canon_unit_zero (by funext a; match a with | ⟨0, _⟩ => rfl | ⟨1, _⟩ => rfl) _ _

end Cert.Proof.KPoint

end
-- ==== Proof.KHead.lean ====
/-
  The kernel's selection head, read at an index: the pooled features of the memory, the query they give with the responder's
  features, and the scores.
-/
module

public import proofs.«01_k».proof.Proof.KRow

@[expose] public section

set_option maxRecDepth 16384

noncomputable section

namespace Cert.Proof.KHead

open Idealize.ShloMosaic Cert.KernelIdeal Cert.KernelIdeal.Gen Cert.Proof.KPay Cert.Proof.KRow

theorem pool_apply (A : Vec Ideal S2560x256 .f32) (r : Fin 10) (b : Fin 256) (m : Fin 32) :
    k0_pay4 A (ix3 r b m) = Spec.pool (memOf A b) r m := by
  unfold Spec.pool memOf
  pointwise [k0_pay4, k0_pay2, row]
  rw [show Ideal.ofBits .f32 0xFF800000#32 = (⊥ : EReal) by simp [Ideal.ofBits, Ideal.ieee]]

theorem whole_apply (A : Vec Ideal S2560x256 .f32) (r : Fin 10) (b d : Fin 256) :
    k0_pay3 A (ix3 r b d) = memOf A b r d := by
  unfold memOf
  pointwise [k0_pay3, k0_pay2, row]

/-- The three pooled roles of a context feature. -/
def three (P : FVec Ideal S10x256x32 .f32) (b : Fin 256) (j : Fin 8) (m : Fin 32) : EReal :=
  max (max (P (ix3 ⟨j.val, by omega⟩ b m)) (P (ix3 ⟨j.val + 1, by omega⟩ b m))) (P (ix3 ⟨j.val + 2, by omega⟩ b m))

theorem three_pool (A : Vec Ideal S2560x256 .f32) (b : Fin 256) (j : Fin 8) (m : Fin 32) :
    three (k0_pay4 A) b j m = Spec.ctx (memOf A b) m j := by
  unfold three Spec.ctx
  rw [pool_apply, pool_apply, pool_apply]

theorem lead (A : Vec Ideal S2560x256 .f32) (o : Vec Ideal S10x256 .f32) (w : Vec Ideal S256x256 .f32)
    (v0 v1 : Vec Ideal S1x32x256 .f32) (b d : Fin 256) :
    k0_pay5 A o w v0 v1 (ix2 b d)
      = (∑ k : Fin 256, (∑ r : Fin 10, o (ix2 r b) * k0_pay3 A (ix3 r b k)) * w (ix2 k d))
        + (∑ m : Fin 32, three (k0_pay4 A) b 0 m * v0 (ix3 0 m d)) + ∑ m : Fin 32, three (k0_pay4 A) b 1 m * v1 (ix3 0 m d) := by
  unfold three
  pointwise [k0_pay5]

theorem mid (A : Vec Ideal S2560x256 .f32) (X : FVec Ideal S256x256 .f32) (v2 v3 v4 v5 : Vec Ideal S1x32x256 .f32) (b d : Fin 256) :
    k0_pay8 (k0_pay4 A) X (k0_pay6 A) (k0_pay7 A) v2 v3 v4 v5 (ix2 b d)
      = X (ix2 b d) + (∑ m : Fin 32, three (k0_pay4 A) b 2 m * v2 (ix3 0 m d)) + (∑ m : Fin 32, three (k0_pay4 A) b 3 m * v3 (ix3 0 m d))
        + (∑ m : Fin 32, three (k0_pay4 A) b 4 m * v4 (ix3 0 m d)) + ∑ m : Fin 32, three (k0_pay4 A) b 5 m * v5 (ix3 0 m d) := by
  unfold three
  pointwise [k0_pay8, k0_pay6, k0_pay7]

/-- The query of batch row `b`, from all but the last two groups of the context. -/
def query (P : FVec Ideal S10x256x32 .f32) (Y : FVec Ideal S256x256 .f32) (v6 v7 : Vec Ideal S1x32x256 .f32) (b d : Fin 256) : EReal :=
  Ideal.tanh (Y (ix2 b d) + (∑ m : Fin 32, three P b 6 m * v6 (ix3 0 m d)) + ∑ m : Fin 32, three P b 7 m * v7 (ix3 0 m d))

theorem last (M : FVec Ideal S10x256x256 .f32) (P : FVec Ideal S10x256x32 .f32) (Y : FVec Ideal S256x256 .f32)
    (v6 v7 : Vec Ideal S1x32x256 .f32) (l : Vec Ideal S9x256 .f32) (w : Vec Ideal S9x9 .f32) (b : Fin 256) (n : Fin 9) :
    k0_pay9 M P Y v6 v7 l w (ix2 b n)
      = ∑ j : Fin 9, ((∑ d : Fin 256, M (ix3 ⟨j.val, by omega⟩ b d) * query P Y v6 v7 b d) * l (ix2 j b)
          + (∑ d : Fin 256, M (ix3 ⟨1 + j.val, by omega⟩ b d) * query P Y v6 v7 b d) * (1 - l (ix2 j b))) * w (ix2 j n) := by
  unfold query three
  pointwise [k0_pay9]

/-- The scores of batch row `b`, by a memory, the responder's marks `o`, the first layer's first 256 rows `w` and its eight
    groups `v`, the marks `l` of the roles before the responder, and the second layer `w2`. -/
theorem head_apply (A : Vec Ideal S2560x256 .f32) (o : Vec Ideal S10x256 .f32) (w : Vec Ideal S256x256 .f32)
    (v0 v1 v2 v3 v4 v5 v6 v7 : Vec Ideal S1x32x256 .f32) (l : Vec Ideal S9x256 .f32) (w2 : Vec Ideal S9x9 .f32)
    (b : Fin 256) (n : Fin 9) (p : Fin 10) (M : Fin 512 → Fin 256 → EReal)
    (ho : ∀ r, o (ix2 r b) = if r = p then 1 else 0)
    (hl : ∀ j : Fin 9, l (ix2 j b) = if j.val < p.val then 1 else 0)
    (hw : ∀ k d, w (ix2 k d) = M ⟨k.val, by omega⟩ d)
    (hv : ∀ (m : Fin 32) (j : Fin 8) d, (![v0, v1, v2, v3, v4, v5, v6, v7] j) (ix3 0 m d) = M ⟨256 + (m.val * 8 + j.val), by omega⟩ d) :
    k0_pay9 (k0_pay3 A) (k0_pay4 A) (k0_pay8 (k0_pay4 A) (k0_pay5 A o w v0 v1) (k0_pay6 A) (k0_pay7 A) v2 v3 v4 v5) v6 v7 l w2 (ix2 b n)
      = Spec.head M (fun j n => w2 (ix2 j n)) p (memOf A b) n := by
  have hq : ∀ d, query (k0_pay4 A) (k0_pay8 (k0_pay4 A) (k0_pay5 A o w v0 v1) (k0_pay6 A) (k0_pay7 A) v2 v3 v4 v5) v6 v7 b d
      = Spec.query M p (memOf A b) d := by
    intro d
    unfold query Spec.query
    rw [mid, lead]
    simp only [three_pool, whole_apply]
    have h1 : ∀ k : Fin 256, (∑ r : Fin 10, o (ix2 r b) * memOf A b r k) * w (ix2 k d) = memOf A b p k * M ⟨k.val, by omega⟩ d := by
      intro k
      rw [hw]
      congr 1
      simp only [ho, ite_mul, one_mul, zero_mul]
      exact Finset.sum_ite_eq' _ _ _ |>.trans (if_pos (Finset.mem_univ _))
    have h2 : (∑ m : Fin 32, ∑ j : Fin 8, Spec.ctx (memOf A b) m j * M ⟨256 + (m.val * 8 + j.val), by omega⟩ d)
        = ∑ j : Fin 8, ∑ m : Fin 32, Spec.ctx (memOf A b) m j * (![v0, v1, v2, v3, v4, v5, v6, v7] j) (ix3 0 m d) := by
      rw [Finset.sum_comm]
      simp only [hv]
    rw [h2, Fin.sum_univ_eight, Finset.sum_congr rfl fun k _ => h1 k]
    simp only [add_assoc]
    rfl
  rw [last]
  unfold Spec.head
  refine Finset.sum_congr rfl fun j _ => ?_
  simp only [hq, whole_apply, hl]
  congr 1
  unfold Spec.other
  by_cases h : j.val < p.val
  · simp only [if_pos h, mul_one]
    have : (1 : EReal) - 1 = 0 := by rw [← EReal.coe_one, ← EReal.coe_sub]; simp
    rw [this, mul_zero, add_zero]
  · simp only [if_neg h, mul_zero, sub_zero, mul_one, zero_add]
    simp only [Nat.add_comm]

end Cert.Proof.KHead

end
-- ==== Proof.KRun.lean ====
/-
  The kernel's ten grid points: after point `t` every batch row's memory is the specification's after `2 t + 2` utterances, and the
  last point leaves the specification's head.
-/
module

public import proofs.«01_k».proof.Proof.KSays
public import proofs.«01_k».proof.Proof.KLast
public import proofs.«01_k».proof.Proof.KHead

@[expose] public section

set_option maxRecDepth 16384

noncomputable section

namespace Cert.Proof.KRun

open Idealize.ShloMosaic Idealize.ShloMosaic.Tactic Cert.KernelIdeal Cert.KernelIdeal.Gen Cert.Proof.KPay Cert.Proof.KStep
  Cert.Proof.KPoint Cert.Proof.KHost Cert.Proof.KRow Cert.Proof.KSays Cert.Proof.Model

variable (m : (ℓ : Loc nD τ sig) → Buf (Elt Ideal) ℓ) (c : Dev nD) (b : Fin 256) (s a : ℕ → Fin 10)

/-- Row `b`'s memory after `n` utterances. -/
abbrev mem (n : ℕ) : Spec.Mem := Spec.run (W m c) (utter (enc m c) b) s a n

/-- One point takes the memory two utterances on. -/
theorem two_steps (t : Fin cfg0.N) (hn : Names (users m c) b s a) (X : Vec Ideal S2560x256 .f32)
    (hX : memOf X b = mem m c b s a (2 * t.val)) :
    memOf (next (second m c t) (next (first m c t) X)) b = mem m c b s a (2 * t.val + 2) := by
  have hc := coord t
  rw [next_eq (says_second m c t b s a hn) (hn.ne ⟨2 * t.val + 1, hc⟩),
    next_eq (says_first m c t b s a hn) (hn.ne ⟨2 * t.val, by omega⟩), hX]
  rfl

theorem mem_at (hn : Names (users m c) b s a) :
    ∀ (n : ℕ) (h : n < cfg0.N), memOf (outsAt0 m c n h).2 b = mem m c b s a (2 * n + 2)
  | 0, h => by
    rw [point_A m c ⟨0, h⟩ rfl (by show ¬ (0 % 10 = 9); decide)]
    refine two_steps m c b s a ⟨0, h⟩ hn _ ?_
    funext r d
    show k0_pay10 (F := Ideal) (ix2 (row r b) d) = 0
    pointwise [k0_pay10]
  | n + 1, h => by
    have hN : cfg0.N = 10 := N_0
    have h0 : ¬ (n + 1) % 10 = 0 := by omega
    have e : (outsAt0 m c (n + 1) h).2 = next (second m c ⟨n + 1, h⟩) (next (first m c ⟨n + 1, h⟩)
        (outsAt0 m c n (by omega)).2) := by
      by_cases h1 : (n + 1) % 10 = 9
      · exact point_C m c ⟨n + 1, h⟩ h0 h1
      · exact point_B m c ⟨n + 1, h⟩ h0 h1
    rw [e]
    exact two_steps m c b s a ⟨n + 1, h⟩ hn _ (mem_at hn n (by omega))

/-- The last point. -/
def last : Fin cfg0.N := ⟨9, by have : cfg0.N = 10 := N_0; omega⟩

theorem mem_last (hn : Names (users m c) b s a) : memOf (outsAt0 m c last.val last.isLt).2 b = mem m c b s a 20 :=
  mem_at m c b s a hn 9 _

section loads
variable (t : Fin cfg0.N)

theorem ld_rsp : View.ld (iblk m c 3 t) (Rect.unit ![0, 0] ![10, 256] inb_S10x256_S10x256_0_0) = rsp m c :=
  (ld_whole (e' := .f32) _ (iblk m c 3 t)).trans (block_3 m c t)
theorem ld_low : View.ld (iblk m c 4 t) (Rect.unit ![0, 0] ![9, 256] inb_S9x256_S9x256_0_0) = low m c :=
  (ld_whole (e' := .f32) _ (iblk m c 4 t)).trans (block_4 m c t)
theorem ld_w1 : View.ld (iblk m c 9 t) (Rect.unit ![0, 0] ![256, 256] inb_S256x256_S256x256_0_0) = w1 m c :=
  (ld_whole (e' := .f32) _ (iblk m c 9 t)).trans (block_9 m c t)
theorem ld_w2 : View.ld (iblk m c 11 t) (Rect.unit ![0, 0] ![9, 9] inb_S9x9_S9x9_0_0) = w2 m c :=
  (ld_whole (e' := .f32) _ (iblk m c 11 t)).trans (block_11 m c t)

theorem ld_vs (o : ℕ) (ho : o < 8) (inb) (k : Fin 32) (d : Fin 256) :
    View.ld (Val := Elt Ideal) (e' := .f32) (iblk m c 10 t) (Rect.unit (s := S8x32x256) ![o, 0, 0] ![1, 32, 256] inb) (ix3 0 k d)
      = mat (lay1 m c) ⟨256 + (k.val * 8 + o), by omega⟩ d := by
  have h := (congrFun (block_10 m c t) (ix3 ⟨o, ho⟩ k d)).trans (vs_apply m c ⟨o, ho⟩ k d)
  revert h
  generalize iblk m c 10 t = X
  intro h
  exact (ld_slab (e' := .f32) o inb X ho k d).trans h

end loads

/-- The head of a point's memory, batch row `b`. -/
theorem headOf_eq (t : Fin cfg0.N) (X : Vec Ideal S2560x256 .f32) (p : Fin 10)
    (hp : resp m c (ix1 b) = BitVec.ofNat 32 p.val) (n : Fin 9) :
    headOf m c t X (ix2 b n) = Spec.head (mat (lay1 m c)) (mat (lay2 m c)) p (memOf X b) n := by
  unfold headOf
  rw [ld_rsp, ld_low, ld_w1, ld_w2]
  have h0 := fun k d => ld_vs m c t 0 (by decide) inb_S8x32x256_S1x32x256_0_0_0 k d
  generalize View.ld (iblk m c 10 t) (Rect.unit ![0, 0, 0] ![1, 32, 256] inb_S8x32x256_S1x32x256_0_0_0) = v0 at h0 ⊢
  have h1 := fun k d => ld_vs m c t 1 (by decide) inb_S8x32x256_S1x32x256_1_0_0 k d
  generalize View.ld (iblk m c 10 t) (Rect.unit ![1, 0, 0] ![1, 32, 256] inb_S8x32x256_S1x32x256_1_0_0) = v1 at h1 ⊢
  have h2 := fun k d => ld_vs m c t 2 (by decide) inb_S8x32x256_S1x32x256_2_0_0 k d
  generalize View.ld (iblk m c 10 t) (Rect.unit ![2, 0, 0] ![1, 32, 256] inb_S8x32x256_S1x32x256_2_0_0) = v2 at h2 ⊢
  have h3 := fun k d => ld_vs m c t 3 (by decide) inb_S8x32x256_S1x32x256_3_0_0 k d
  generalize View.ld (iblk m c 10 t) (Rect.unit ![3, 0, 0] ![1, 32, 256] inb_S8x32x256_S1x32x256_3_0_0) = v3 at h3 ⊢
  have h4 := fun k d => ld_vs m c t 4 (by decide) inb_S8x32x256_S1x32x256_4_0_0 k d
  generalize View.ld (iblk m c 10 t) (Rect.unit ![4, 0, 0] ![1, 32, 256] inb_S8x32x256_S1x32x256_4_0_0) = v4 at h4 ⊢
  have h5 := fun k d => ld_vs m c t 5 (by decide) inb_S8x32x256_S1x32x256_5_0_0 k d
  generalize View.ld (iblk m c 10 t) (Rect.unit ![5, 0, 0] ![1, 32, 256] inb_S8x32x256_S1x32x256_5_0_0) = v5 at h5 ⊢
  have h6 := fun k d => ld_vs m c t 6 (by decide) inb_S8x32x256_S1x32x256_6_0_0 k d
  generalize View.ld (iblk m c 10 t) (Rect.unit ![6, 0, 0] ![1, 32, 256] inb_S8x32x256_S1x32x256_6_0_0) = v6 at h6 ⊢
  have h7 := fun k d => ld_vs m c t 7 (by decide) inb_S8x32x256_S1x32x256_7_0_0 k d
  generalize View.ld (iblk m c 10 t) (Rect.unit ![7, 0, 0] ![1, 32, 256] inb_S8x32x256_S1x32x256_7_0_0) = v7 at h7 ⊢
  refine (KHead.head_apply X _ _ _ _ _ _ _ _ _ _ _ _ b n p (mat (lay1 m c)) ?_ ?_ ?_ ?_).trans ?_
  · intro r
    rw [rsp_apply, hp]
    simp only [word_eq, eq_comm]
  · intro j
    rw [low_apply, hp]
    simp only [word_lt]
  · exact fun k d => w1_apply m c k d
  · intro k j d
    match j with
    | ⟨0, _⟩ => exact h0 k d
    | ⟨1, _⟩ => exact h1 k d
    | ⟨2, _⟩ => exact h2 k d
    | ⟨3, _⟩ => exact h3 k d
    | ⟨4, _⟩ => exact h4 k d
    | ⟨5, _⟩ => exact h5 k d
    | ⟨6, _⟩ => exact h6 k d
    | ⟨7, _⟩ => exact h7 k d
  · rw [w2_eq]
    rfl

theorem head_last (hn : Names (users m c) b s a) (p : Fin 10) (hp : resp m c (ix1 b) = BitVec.ofNat 32 p.val) (n : Fin 9) :
    (outsAt0 m c last.val last.isLt).1 (ix2 b n)
      = Spec.head (mat (lay1 m c)) (mat (lay2 m c)) p (mem m c b s a 20) n := by
  rw [head_C m c last (by decide) (by decide), ← point_C m c last (by decide) (by decide), headOf_eq m c b last _ p hp n,
    mem_last m c b s a hn]

end Cert.Proof.KRun

end
-- ==== Proof.KArr.lean ====
/-
  The kernel's two arrays at the end of its grid: the last point writes both back whole.
-/
module

public import proofs.«01_k».proof.Proof.KRun

@[expose] public section

set_option maxRecDepth 16384

noncomputable section

namespace Cert.Proof.KArr

open Idealize.ShloMosaic Idealize.ShloMosaic.Tactic Cert.KernelIdeal Cert.KernelIdeal.Gen Cert.Proof.KRun

variable (m : (ℓ : Loc nD τ sig) → Buf (Elt Ideal) ℓ) (c : Dev nD)

/-- The scores the last point leaves. -/
abbrev scores : Buf (Elt Ideal) ((c.tc : Thread nD τ).loc main_v71_0) := (outsAt0 m c last.val last.isLt).1

/-- The memory it leaves. -/
abbrev memory : Buf (Elt Ideal) ((c.tc : Thread nD τ).loc main_v71_1) := (outsAt0 m c last.val last.isLt).2

theorem eq_last (t : Fin cfg0.N) (h : t.val % 10 = 9) : t = last := by
  have hN : cfg0.N = 10 := N_0
  have := t.isLt
  exact Fin.ext (by show t.val = 9; omega)

/-- A rectangle at the origin as large as its array holds every index. -/
theorem inside (S : Shape) (off ext : Fin S.rank → ℕ) (ho : off = fun _ => 0) (he : ext = S.size) (i : S.Idx) (a : Fin S.rank) :
    off a ≤ (i a).val ∧ (i a).val < off a + ext a := by
  subst ho he
  exact ⟨Nat.zero_le _, by rw [Nat.zero_add]; exact (i a).isLt⟩

theorem offset_12 : (fun a => win0_12.index last a * main_v71_0.ty.shape.size a) = fun _ => 0 :=
  funext fun a => by fin_cases a <;> decide

theorem extent_12 : (fun a => win0_12.xsize (grid0.coords last) a) = main_v71_0.ty.shape.size :=
  funext fun a => by fin_cases a <;> decide +kernel

theorem flushed_12 (t : Fin cfg0.N) (hf : (cfg0.win 12).flush t = true) :
    (dats m 0 c).flushed 12 t = ((cfg0.win 12).blk t).view.read (Elt Ideal) (scores m c) := by
  obtain rfl := eq_last t ((flush0_12 t).mp hf)
  show (cfg0.win 12).cut (grid0.coords last) ((dats m 0 c).after 12 last) = _
  rw [after0_12]
  exact (Memref.read_access_unit_zero (Elt Ideal) main_v71_0 offset_12
    (fun a => by rw [congrFun offset_12 a]; simp) (scores m c)).symm

theorem final_12 : (dats m 0 c).arrAt 12 cfg0.N = scores m c := by
  refine (dats m 0 c).arrAt_eq_of_cover 12 (scores m c) (flushed_12 m c) fun i => ⟨last, (flush0_12 last).mpr rfl, ?_⟩
  show i ∈ ((View.whole main_v71_0).slice (win0_12.rect last)).set
  rw [View.set_slice_whole, Rect.mem_set_unit]
  exact inside main_v71_0.ty.shape _ _ offset_12 extent_12 i

theorem offset_13 : (fun a => win0_13.index last a * main_v71_1.ty.shape.size a) = fun _ => 0 :=
  funext fun a => by fin_cases a <;> decide

theorem extent_13 : (fun a => win0_13.xsize (grid0.coords last) a) = main_v71_1.ty.shape.size :=
  funext fun a => by fin_cases a <;> decide +kernel

theorem flushed_13 (t : Fin cfg0.N) (hf : (cfg0.win 13).flush t = true) :
    (dats m 0 c).flushed 13 t = ((cfg0.win 13).blk t).view.read (Elt Ideal) (memory m c) := by
  obtain rfl := eq_last t ((flush0_13 t).mp hf)
  show (cfg0.win 13).cut (grid0.coords last) ((dats m 0 c).after 13 last) = _
  rw [after0_13]
  exact (Memref.read_access_unit_zero (Elt Ideal) main_v71_1 offset_13
    (fun a => by rw [congrFun offset_13 a]; simp) (memory m c)).symm

theorem final_13 : (dats m 0 c).arrAt 13 cfg0.N = memory m c := by
  refine (dats m 0 c).arrAt_eq_of_cover 13 (memory m c) (flushed_13 m c) fun i => ⟨last, (flush0_13 last).mpr rfl, ?_⟩
  show i ∈ ((View.whole main_v71_1).slice (win0_13.rect last)).set
  rw [View.set_slice_whole, Rect.mem_set_unit]
  exact inside main_v71_1.ty.shape _ _ offset_13 extent_13 i

/-- A memory matrix as an array of batch row, role and feature. -/
def unstack (A : Vec Ideal S2560x256 .f32) : Vec Ideal S256x10x256 .f32 :=
  transpose S256x10x256 [1, 0, 2] (shapeCast S10x256x256 A shapeCasts_S2560x256_S10x256x256)
    transposes_S10x256x256_S256x10x256_1_0_2

theorem unstack_apply (A : Vec Ideal S2560x256 .f32) (b : Fin 256) (r : Fin 10) (d : Fin 256) :
    unstack A (ix3 b r d) = KRow.memOf A b r d := by
  unfold KRow.memOf
  pointwise [unstack]
  rfl

theorem tail_eq : Pipeline.afterTail₀ cfgs (dats m) 0 (V0 m) [hostOps1] c main_v73 = unstack (memory m c) := by
  have e : Pipeline.withArrays (cfgs (0 : Fin 1)).spec c (V0 m c) (fun w => (dats m 0 c).arrAt w (cfgs (0 : Fin 1)).N)
      (Proc.devRef .tc main_v71_1) = memory m c :=
    (Pipeline.withArrays_arr (cfgs (0 : Fin 1)).spec (by decide) c (V0 m c) _ 13).trans (final_13 m c)
  unfold Pipeline.afterTail₀ unstack
  simp only [List.flatten_cons, List.flatten_nil, List.append_nil]
  after_results
  rw [e]
  rfl

/-- The kernel's run: its two results, its arguments unchanged. -/
theorem values (ρ : Dev nD → PrngReg) : θ_run defs (onTc (τ := τ) (main (F := Ideal))) ⟨m, fun _ => 0, ρ⟩ fun r => ∀ c : Dev nD,
    r.2.mem ((c.tc : Thread nD τ).loc main_v71_0) = scores m c
      ∧ r.2.mem ((c.tc : Thread nD τ).loc main_v73) = unstack (memory m c) :=
  (θ_run defs _ _).mono (fun _ h c => ⟨((h c).1 12).trans (final_12 m c),
    ((h c).2 main_v73 (Pipeline.mem_restRefs_of main_v73 (by decide) (by decide))).trans (tail_eq m c)⟩) (run_main m ρ)

end Cert.Proof.KArr

end
-- ==== Proof.RefIndex.lean ====
/-
  The reference reads and writes its role memory `A : 256 × 10 × 256` (batch row, role, feature) through tables of index words:
  two gathers by (batch row, role), two gathers along the role axis, and the scatters that put the new rows back.
  Here each of them is read at one element, of what its index words say.
-/
module

public import proofs.«01_k».proof.ReferenceIdeal
public import proofs.«01_k».proof.Proof.Gen.ReferenceIdeal
public import Idealize.ShloMosaic.Lib.Pointwise
public import Idealize.ShloMosaic.Lib.Routing.OpsPair

@[expose] public section

noncomputable section

namespace Cert.Proof.RefIndex

open Idealize.ShloMosaic Cert.ReferenceIdeal Cert.ReferenceIdeal.Gen

variable {α : Type}

/-- Every index of a matrix is a row and a column. -/
theorem ix2_all {m n : Nat} (k : (⟨2, ![m, n]⟩ : Shape).Idx) : ∃ (a : Fin m) (b : Fin n), k = ix2 a b :=
  ⟨k 0, k 1, by funext a; match a with | ⟨0, _⟩ => rfl | ⟨1, _⟩ => rfl⟩

/-- Every index of a rank-3 array is three coordinates. -/
theorem ix3_all {m n p : Nat} (k : (⟨3, ![m, n, p]⟩ : Shape).Idx) : ∃ (a : Fin m) (b : Fin n) (c : Fin p), k = ix3 a b c :=
  ⟨k 0, k 1, k 2, by funext a; match a with | ⟨0, _⟩ => rfl | ⟨1, _⟩ => rfl | ⟨2, _⟩ => rfl⟩

/-- Component `q` of the index words of result element `(b, d)` is entry `(b, q)` of the table. -/
theorem pair_siIdx (b d : Fin 256) (q : Fin 2) (h) :
    gather_S256x10x256_S256x2_S256x256_1_01_n_n_01_1_11256.siIdx (ix2 b d) ⟨q.val, h⟩ = ix2 b q := by
  funext a
  refine Fin.ext ?_
  match a with
  | ⟨0, _⟩ => rfl
  | ⟨1, _⟩ => rfl

/-- `A[bidx, role]`: element `(b, d)` is feature `d` of the role the words of row `b` name. -/
theorem gather_pair (A : S256x10x256.Idx → α) (idx : IVec S256x2 32) (b d : Fin 256) (r : Fin 10)
    (h0 : (idx (ix2 b 0)).toInt = b.val) (h1 : (idx (ix2 b 1)).toInt = r.val) :
    Host.gather gather_S256x10x256_S256x2_S256x256_1_01_n_n_01_1_11256 A idx (ix2 b d) = A (ix3 b r d) := by
  unfold Host.gather
  congr 1
  funext a
  refine Fin.ext ?_
  show _ + _ + _ = _
  match a with
  | ⟨0, _⟩ =>
    show min (idx (gather_S256x10x256_S256x2_S256x256_1_01_n_n_01_1_11256.siIdx (ix2 b d) ⟨(0 : Fin 2).val, by decide⟩)).toInt.toNat (256 - 1) + 0 + 0 = b.val
    rw [pair_siIdx, h0]
    omega
  | ⟨1, _⟩ =>
    show min (idx (gather_S256x10x256_S256x2_S256x256_1_01_n_n_01_1_11256.siIdx (ix2 b d) ⟨(1 : Fin 2).val, by decide⟩)).toInt.toNat (10 - 1) + 0 + 0 = r.val
    rw [pair_siIdx, h1]
    omega
  | ⟨2, _⟩ =>
    show 0 + 0 + d.val = d.val
    omega

/-- The index word of result element `(b, j, d)` is entry `(b, j, 0)` of the table. -/
theorem along8_siIdx (b : Fin 256) (j : Fin 8) (d : Fin 256) (h) :
    gather_S256x10x256_S256x8x1_S256x8x256_2_1_0_0_1_2_11256.siIdx (ix3 b j d) ⟨0, h⟩ = ix3 b j (0 : Fin 1) := by
  funext a
  refine Fin.ext ?_
  match a with
  | ⟨0, _⟩ => rfl
  | ⟨1, _⟩ => rfl
  | ⟨2, _⟩ => rfl

/-- Eight rows taken along the role axis: element `(b, j, d)` is feature `d` of the role the word `(b, j)` names. -/
theorem gather_along8 (A : S256x10x256.Idx → α) (idx : IVec S256x8x1 32) (b : Fin 256) (j : Fin 8) (d : Fin 256) (r : Fin 10)
    (h : (idx (ix3 b j 0)).toInt = r.val) :
    Host.gather gather_S256x10x256_S256x8x1_S256x8x256_2_1_0_0_1_2_11256 A idx (ix3 b j d) = A (ix3 b r d) := by
  unfold Host.gather
  congr 1
  funext a
  refine Fin.ext ?_
  show _ + _ + _ = _
  match a with
  | ⟨0, _⟩ =>
    show 0 + b.val + 0 = b.val
    omega
  | ⟨1, _⟩ =>
    show min (idx (gather_S256x10x256_S256x8x1_S256x8x256_2_1_0_0_1_2_11256.siIdx (ix3 b j d) ⟨0, by decide⟩)).toInt.toNat (10 - 1) + 0 + 0 = r.val
    rw [along8_siIdx, h]
    omega
  | ⟨2, _⟩ =>
    show 0 + 0 + d.val = d.val
    omega

/-- The index word of result element `(b, j, d)` is entry `(b, j, 0)` of the table. -/
theorem along9_siIdx (b : Fin 256) (j : Fin 9) (d : Fin 256) (h) :
    gather_S256x10x256_S256x9x1_S256x9x256_2_1_0_0_1_2_11256.siIdx (ix3 b j d) ⟨0, h⟩ = ix3 b j (0 : Fin 1) := by
  funext a
  refine Fin.ext ?_
  match a with
  | ⟨0, _⟩ => rfl
  | ⟨1, _⟩ => rfl
  | ⟨2, _⟩ => rfl

/-- Nine rows taken along the role axis: element `(b, j, d)` is feature `d` of the role the word `(b, j)` names. -/
theorem gather_along9 (A : S256x10x256.Idx → α) (idx : IVec S256x9x1 32) (b : Fin 256) (j : Fin 9) (d : Fin 256) (r : Fin 10)
    (h : (idx (ix3 b j 0)).toInt = r.val) :
    Host.gather gather_S256x10x256_S256x9x1_S256x9x256_2_1_0_0_1_2_11256 A idx (ix3 b j d) = A (ix3 b r d) := by
  unfold Host.gather
  congr 1
  funext a
  refine Fin.ext ?_
  show _ + _ + _ = _
  match a with
  | ⟨0, _⟩ =>
    show 0 + b.val + 0 = b.val
    omega
  | ⟨1, _⟩ =>
    show min (idx (gather_S256x10x256_S256x9x1_S256x9x256_2_1_0_0_1_2_11256.siIdx (ix3 b j d) ⟨0, by decide⟩)).toInt.toNat (10 - 1) + 0 + 0 = r.val
    rw [along9_siIdx, h]
    omega
  | ⟨2, _⟩ =>
    show 0 + 0 + d.val = d.val
    omega

/-- A scatter that SETS, at an element where every landing update holds `v` and at least one lands. -/
theorem scatter_hit {s si u : Shape} {w : Nat} (d : ScatterDims s si u) (x : s.Idx → α) (idx : IVec si w) (upd : u.Idx → α) (ι : s.Idx) (v : α)
    (k : u.Idx) (hk : d.resultIdx? k idx = some ι) (h : ∀ k, d.resultIdx? k idx = some ι → upd k = v) :
    Host.scatter d (fun _ b => b) x idx upd ι = v := by
  rw [Routing.scatter_at]
  have key : ∀ (l : List (Fin u.numel)) (a : α), (a = v ∨ u.rowMajor k ∈ l) →
      l.foldl (fun a n => if d.resultIdx? (u.rowMajor.symm n) idx = some ι then upd (u.rowMajor.symm n) else a) a = v := by
    intro l
    induction l with
    | nil =>
      intro a ha
      rcases ha with ha | ha
      · exact ha
      · cases ha
    | cons n l ih =>
      intro a ha
      refine ih _ ?_
      by_cases hn : d.resultIdx? (u.rowMajor.symm n) idx = some ι
      · left
        exact (if_pos hn).trans (h _ hn)
      · refine Or.imp_left (fun e => (if_neg hn).trans e) ?_
        rcases ha with ha | ha
        · exact Or.inl ha
        · rcases List.mem_cons.1 ha with e | e
          · exact (hn (by rw [← e, Equiv.symm_apply_apply]; exact hk)).elim
          · exact Or.inr e
  exact key _ _ (Or.inr (List.mem_finRange _))

/-- A scatter that SETS, at an element where no update lands. -/
theorem scatter_miss {s si u : Shape} {w : Nat} (d : ScatterDims s si u) (x : s.Idx → α) (idx : IVec si w) (upd : u.Idx → α) (ι : s.Idx)
    (h : ∀ k, d.resultIdx? k idx ≠ some ι) :
    Host.scatter d (fun _ b => b) x idx upd ι = x ι := by
  rw [Routing.scatter_at]
  generalize x ι = a
  induction List.finRange u.numel with
  | nil => rfl
  | cons n l ih => rw [List.foldl_cons, if_neg (h _)]; exact ih

/-- Component `q` of the index words of update element `(b, d)` is entry `(b, q)` of the table. -/
theorem set_siIdx (b d : Fin 256) (q : Fin 2) (h) :
    scatter_S256x10x256_S256x2_S256x256_1_01_01_1.siIdx (ix2 b d) ⟨q.val, h⟩ = ix2 b q := by
  funext a
  refine Fin.ext ?_
  match a with
  | ⟨0, _⟩ => rfl
  | ⟨1, _⟩ => rfl

/-- Where update `(b', d')` of `A.at[bidx, role].set` lands. -/
theorem set_lands (idx : IVec S256x2 32) (b' d' b d : Fin 256) (r : Fin 10) :
    scatter_S256x10x256_S256x2_S256x256_1_01_01_1.resultIdx? (ix2 b' d') idx = some (ix3 b r d)
      ↔ (idx (ix2 b' 0)).toInt = b.val ∧ (idx (ix2 b' 1)).toInt = r.val ∧ d' = d := by
  rw [Routing.resultIdx?_eq_some]
  have e0 : scatter_S256x10x256_S256x2_S256x256_1_01_01_1.start (ix2 b' d') idx 0 = (idx (ix2 b' 0)).toInt := by
    rw [← set_siIdx b' d' 0 (by decide)]; rfl
  have e1 : scatter_S256x10x256_S256x2_S256x256_1_01_01_1.start (ix2 b' d') idx 1 = (idx (ix2 b' 1)).toInt := by
    rw [← set_siIdx b' d' 1 (by decide)]; rfl
  have e2 : scatter_S256x10x256_S256x2_S256x256_1_01_01_1.start (ix2 b' d') idx 2 = 0 := rfl
  have w0 : scatter_S256x10x256_S256x2_S256x256_1_01_01_1.window (ix2 b' d') 0 = 0 := rfl
  have w1 : scatter_S256x10x256_S256x2_S256x256_1_01_01_1.window (ix2 b' d') 1 = 0 := rfl
  have w2 : scatter_S256x10x256_S256x2_S256x256_1_01_01_1.window (ix2 b' d') 2 = d'.val := rfl
  constructor
  · intro h
    have h0 := h 0
    have h1 := h 1
    have h2 := h 2
    rw [e0, w0] at h0
    rw [e1, w1] at h1
    rw [e2, w2] at h2
    change _ = (b.val : Int) at h0
    change _ = (r.val : Int) at h1
    change _ = (d.val : Int) at h2
    exact ⟨by omega, by omega, Fin.ext (by omega)⟩
  · rintro ⟨h0, h1, rfl⟩ a
    match a with
    | ⟨0, _⟩ => exact (congrArg₂ (· + ·) (e0.trans h0) (congrArg Nat.cast w0)).trans (Int.add_zero _)
    | ⟨1, _⟩ => exact (congrArg₂ (· + ·) (e1.trans h1) (congrArg Nat.cast w1)).trans (Int.add_zero _)
    | ⟨2, _⟩ => exact (congrArg₂ (· + ·) e2 (congrArg Nat.cast w2)).trans (Int.zero_add _)

/-- `A.at[bidx, role].set(upd)` at `(b, r, d)`: the update's row `b` where `r` is the role its words name, `A` elsewhere. -/
theorem scatter_set (A : S256x10x256.Idx → α) (idx : IVec S256x2 32) (upd : S256x256.Idx → α) (role : Fin 256 → Fin 10)
    (h0 : ∀ b, (idx (ix2 b 0)).toInt = b.val) (h1 : ∀ b, (idx (ix2 b 1)).toInt = (role b).val) (b : Fin 256) (r : Fin 10) (d : Fin 256) :
    Host.scatter scatter_S256x10x256_S256x2_S256x256_1_01_01_1 (fun _ b => b) A idx upd (ix3 b r d)
      = if r = role b then upd (ix2 b d) else A (ix3 b r d) := by
  split
  · next e =>
    subst e
    refine scatter_hit _ _ _ _ _ _ (ix2 b d) ((set_lands ..).2 ⟨h0 b, h1 b, rfl⟩) fun k hk => ?_
    obtain ⟨b', d', rfl⟩ := ix2_all k
    obtain ⟨p0, -, rfl⟩ := (set_lands ..).1 hk
    rw [h0] at p0
    have : b' = b := Fin.ext (by omega)
    rw [this]
  · next e =>
    refine scatter_miss _ _ _ _ _ fun k hk => e ?_
    obtain ⟨b', d', rfl⟩ := ix2_all k
    obtain ⟨p0, p1, rfl⟩ := (set_lands ..).1 hk
    rw [h0] at p0
    have : b' = b := Fin.ext (by omega)
    subst this
    rw [h1] at p1
    exact Fin.ext (by omega)

/-- Component `q` of the index words of update element `(b, j, d)` is entry `(b, j, q)` of the table. -/
theorem set8_siIdx (b : Fin 256) (j : Fin 8) (d : Fin 256) (q : Fin 2) (h) :
    scatter_S256x10x256_S256x8x2_S256x8x256_2_01_01_2.siIdx (ix3 b j d) ⟨q.val, h⟩ = ix3 b j q := by
  funext a
  refine Fin.ext ?_
  match a with
  | ⟨0, _⟩ => rfl
  | ⟨1, _⟩ => rfl
  | ⟨2, _⟩ => rfl

/-- Where update `(b', j, d')` of `A.at[bidx[:, None], others].set` lands. -/
theorem set8_lands (idx : IVec S256x8x2 32) (b' : Fin 256) (j : Fin 8) (d' b d : Fin 256) (r : Fin 10) :
    scatter_S256x10x256_S256x8x2_S256x8x256_2_01_01_2.resultIdx? (ix3 b' j d') idx = some (ix3 b r d)
      ↔ (idx (ix3 b' j 0)).toInt = b.val ∧ (idx (ix3 b' j 1)).toInt = r.val ∧ d' = d := by
  rw [Routing.resultIdx?_eq_some]
  have e0 : scatter_S256x10x256_S256x8x2_S256x8x256_2_01_01_2.start (ix3 b' j d') idx 0 = (idx (ix3 b' j 0)).toInt := by
    rw [← set8_siIdx b' j d' 0 (by decide)]; rfl
  have e1 : scatter_S256x10x256_S256x8x2_S256x8x256_2_01_01_2.start (ix3 b' j d') idx 1 = (idx (ix3 b' j 1)).toInt := by
    rw [← set8_siIdx b' j d' 1 (by decide)]; rfl
  have e2 : scatter_S256x10x256_S256x8x2_S256x8x256_2_01_01_2.start (ix3 b' j d') idx 2 = 0 := rfl
  have w0 : scatter_S256x10x256_S256x8x2_S256x8x256_2_01_01_2.window (ix3 b' j d') 0 = 0 := rfl
  have w1 : scatter_S256x10x256_S256x8x2_S256x8x256_2_01_01_2.window (ix3 b' j d') 1 = 0 := rfl
  have w2 : scatter_S256x10x256_S256x8x2_S256x8x256_2_01_01_2.window (ix3 b' j d') 2 = d'.val := rfl
  constructor
  · intro h
    have h0 := h 0
    have h1 := h 1
    have h2 := h 2
    rw [e0, w0] at h0
    rw [e1, w1] at h1
    rw [e2, w2] at h2
    change _ = (b.val : Int) at h0
    change _ = (r.val : Int) at h1
    change _ = (d.val : Int) at h2
    exact ⟨by omega, by omega, Fin.ext (by omega)⟩
  · rintro ⟨h0, h1, rfl⟩ a
    match a with
    | ⟨0, _⟩ => exact (congrArg₂ (· + ·) (e0.trans h0) (congrArg Nat.cast w0)).trans (Int.add_zero _)
    | ⟨1, _⟩ => exact (congrArg₂ (· + ·) (e1.trans h1) (congrArg Nat.cast w1)).trans (Int.add_zero _)
    | ⟨2, _⟩ => exact (congrArg₂ (· + ·) e2 (congrArg Nat.cast w2)).trans (Int.zero_add _)

/-- `A.at[bidx[:, None], others].set(upd)` at a role among the row's others: what the updates of that role hold. -/
theorem scatter_set8_hit (A : S256x10x256.Idx → α) (idx : IVec S256x8x2 32) (upd : S256x8x256.Idx → α) (others : Fin 256 → Fin 8 → Fin 10)
    (h0 : ∀ b j, (idx (ix3 b j 0)).toInt = b.val) (h1 : ∀ b j, (idx (ix3 b j 1)).toInt = (others b j).val) (b : Fin 256) (r : Fin 10) (d : Fin 256)
    (v : α) (j : Fin 8) (hj : others b j = r) (hv : ∀ j, others b j = r → upd (ix3 b j d) = v) :
    Host.scatter scatter_S256x10x256_S256x8x2_S256x8x256_2_01_01_2 (fun _ b => b) A idx upd (ix3 b r d) = v := by
  refine scatter_hit _ _ _ _ _ _ (ix3 b j d) ((set8_lands ..).2 ⟨h0 b j, by rw [h1, hj], rfl⟩) fun k hk => ?_
  obtain ⟨b', j', d', rfl⟩ := ix3_all k
  obtain ⟨p0, p1, rfl⟩ := (set8_lands ..).1 hk
  rw [h0] at p0
  have : b' = b := Fin.ext (by omega)
  subst this
  rw [h1] at p1
  exact hv j' (Fin.ext (by omega))

/-- The same scatter at a role that is none of the row's others: `A`. -/
theorem scatter_set8_miss (A : S256x10x256.Idx → α) (idx : IVec S256x8x2 32) (upd : S256x8x256.Idx → α) (others : Fin 256 → Fin 8 → Fin 10)
    (h0 : ∀ b j, (idx (ix3 b j 0)).toInt = b.val) (h1 : ∀ b j, (idx (ix3 b j 1)).toInt = (others b j).val) (b : Fin 256) (r : Fin 10) (d : Fin 256)
    (hn : ∀ j, others b j ≠ r) :
    Host.scatter scatter_S256x10x256_S256x8x2_S256x8x256_2_01_01_2 (fun _ b => b) A idx upd (ix3 b r d) = A (ix3 b r d) := by
  refine scatter_miss _ _ _ _ _ fun k hk => ?_
  obtain ⟨b', j', d', rfl⟩ := ix3_all k
  obtain ⟨p0, p1, rfl⟩ := (set8_lands ..).1 hk
  rw [h0] at p0
  have : b' = b := Fin.ext (by omega)
  subst this
  rw [h1] at p1
  exact hn j' (Fin.ext (by omega))

end Cert.Proof.RefIndex

end
-- ==== Proof.RefSort.lean ====
/-
  The reference lists the roles that take no part in an utterance (and, in its head, the roles that are not the
  responder) by sorting: every role keeps its number, an excluded one becomes 10, and the sorted row is cut before
  the tens. What the sorted row holds is decided here, over every choice of the excluded roles.
-/
module

public import proofs.«01_k».proof.Proof.Spec
public import proofs.«01_k».proof.ReferenceIdeal
public import proofs.«01_k».proof.Proof.Gen.ReferenceIdeal

@[expose] public section

noncomputable section

namespace Cert.Proof.RefSort

open Idealize.ShloMosaic Cert.ReferenceIdeal Cert.ReferenceIdeal.Gen

/-- The position a row of ten words takes at place `j` when it is sorted. -/
def place (w : Fin 10 → BitVec 32) (j : Fin 10) : Fin 10 := sortedFrom (fun k k' => IntOp.cmpi .slt (w k) (w k') == 1#1) j

/-- The sort along the rows of a `256 × 10` array, read at one element. -/
theorem sort_row (x : IVec S256x10 32) (b : Fin 256) (w : Fin 10 → BitVec 32) (hx : ∀ k, x (ix2 b k) = w k) (j : Fin 10) :
    Host.sort S256x10 1 comparator_i32_d1 x (ix2 b j) = w (place w j) := by
  have e : ∀ k : Fin 10, (ix2 b j : S256x10.Idx).along 1 k = ix2 b k := fun k => by
    funext a
    match a with
    | ⟨0, _⟩ => rfl
    | ⟨1, _⟩ => rfl
  have h : (fun k => x ((ix2 b j : S256x10.Idx).along 1 k)) = w := funext fun k => (congrArg x (e k)).trans (hx k)
  show (fun k => x ((ix2 b j : S256x10.Idx).along 1 k)) (sortedFrom (fun k k' => IntOp.cmpi .slt
    ((fun k => x ((ix2 b j : S256x10.Idx).along 1 k)) k) ((fun k => x ((ix2 b j : S256x10.Idx).along 1 k)) k') == 1#1) j) = _
  rw [h]
  rfl

/-- Role `k`'s word in an utterance from role `s` to role `a`: its number, or 10 for the two that take part. -/
def word2 (s a k : Fin 10) : BitVec 32 :=
  Scalar.select (IntOp.andi (IntOp.cmpi .ne (BitVec.ofNat 32 k.val) (BitVec.ofNat 32 s.val))
    (IntOp.cmpi .ne (BitVec.ofNat 32 k.val) (BitVec.ofNat 32 a.val))) (BitVec.ofNat 32 k.val) 10#32

/-- The `j`-th role that takes no part in an utterance from `s` to `a`. -/
def bystander (s a : Fin 10) (j : Fin 8) : Fin 10 := place (word2 s a) ⟨j.val, by omega⟩

theorem bystander_word (s a : Fin 10) (h : s ≠ a) (j : Fin 8) :
    word2 s a (place (word2 s a) ⟨j.val, by omega⟩) = BitVec.ofNat 32 (bystander s a j).val := by
  revert s a j
  decide +kernel

theorem bystander_ne (s a : Fin 10) (h : s ≠ a) (j : Fin 8) : bystander s a j ≠ s ∧ bystander s a j ≠ a := by
  revert s a j
  decide +kernel

theorem exists_bystander (s a r : Fin 10) (h : s ≠ a) (hs : r ≠ s) (ha : r ≠ a) : ∃ j, bystander s a j = r := by
  revert s a r
  decide +kernel

/-- Role `k`'s word when role `p` responds: its number, or 10 for `p`. -/
def word1 (p k : Fin 10) : BitVec 32 :=
  Scalar.select (IntOp.cmpi .ne (BitVec.ofNat 32 k.val) (BitVec.ofNat 32 p.val)) (BitVec.ofNat 32 k.val) 10#32

theorem other_word (p : Fin 10) (j : Fin 9) :
    word1 p (place (word1 p) ⟨j.val, by omega⟩) = BitVec.ofNat 32 (Spec.other p j).val := by
  revert p j
  decide +kernel

end Cert.Proof.RefSort

end
-- ==== Proof.RefUsers.lean ====
/-
  One trip of the reference, its indices: the utterance's encodings, the speaker's and the addressee's numbers, and the tables of
  index words by which the trip reads and writes the memory.
-/
module

public import proofs.«01_k».proof.Proof.Model
public import proofs.«01_k».proof.Proof.RefIndex
public import proofs.«01_k».proof.Proof.RefSort
public import proofs.«01_k».proof.Proof.Gen.ReferenceIdeal.Step
public import Idealize.ShloMosaic.Lib.DynamicIndex
public import Idealize.ShloMosaic.Lib.ReduceAll

@[expose] public section

set_option maxRecDepth 16384

noncomputable section

namespace Cert.Proof.RefUsers

open Idealize.ShloMosaic Idealize.ShloMosaic.Tactic Cert.ReferenceIdeal Cert.ReferenceIdeal.Gen Cert.ReferenceIdeal.Step
  Cert.Proof.Model

/-- What a trip's state and number say: its utterance's two roles. -/
structure Roles (j : ℕ) (s : State Ideal) (sp ad : Fin 256 → Fin 10) : Prop where
  lt : j < 20
  spk : ∀ b, (s.main_v1_1 : IVec S256x20x2 32) (ix3 b ⟨j, lt⟩ 0) = BitVec.ofNat 32 (sp b).val
  adr : ∀ b, (s.main_v1_1 : IVec S256x20x2 32) (ix3 b ⟨j, lt⟩ 1) = BitVec.ofNat 32 (ad b).val
  ne : ∀ b, sp b ≠ ad b

variable {j : ℕ} {s : State Ideal} {sp ad : Fin 256 → Fin 10}

/-- An index word that is a small number is not wrapped. -/
theorem unwrapped (n : ℕ) (hn : n < 2 ^ 31) (x : BitVec 32) :
    Scalar.select (IntOp.cmpi .slt (BitVec.ofNat 32 n) 0#32) x (BitVec.ofNat 32 n) = BitVec.ofNat 32 n :=
  Routing.wrap_of_lt _ _ (by rw [BitVec.toNat_ofNat]; omega)

theorem trip_7 (hj : j < 20) (i) : BitVec.toInt ((b7 j s : IVec S_ 32) i) = j := by
  unfold b7 b6 b5 b4 b3 b2
  pointwise []
  rw [unwrapped j (by omega)]
  exact toInt_ofNat_of_lt (by omega)

theorem trip_17 (hj : j < 20) (i) : BitVec.toInt ((b17 j s : IVec S_ 32) i) = j := by
  unfold b17 b16 b15 b14 b13 b12
  pointwise []
  rw [unwrapped j (by omega)]
  exact toInt_ofNat_of_lt (by omega)

/-- The trip's encodings. -/
theorem enc_at (hj : j < 20) (b : Fin 256) (k : Fin 512) :
    (b11 j s : Vec Ideal S256x512 .f32) (ix2 b k) = (s.main_v1_0 : Vec Ideal S256x20x512 .f32) (ix3 b ⟨j, hj⟩ k) := by
  have h : S256x20x512.Slices ![0, j, 0] S256x1x512 := ⟨rfl, fun a => by
    match a with
    | ⟨0, _⟩ => show 0 + 256 ≤ 256; omega
    | ⟨1, _⟩ => show j + 1 ≤ 20; omega
    | ⟨2, _⟩ => show 0 + 512 ≤ 512; omega⟩
  unfold b11 b10
  rw [Host.dynamicSlice_eq_extractStridedSlice S256x1x512 _ _ ![0, j, 0] _ h fun a => by
    match a with
    | ⟨0, _⟩ => rfl
    | ⟨1, _⟩ => exact trip_7 hj _
    | ⟨2, _⟩ => rfl]
  pointwise []

/-- The trip's user words. -/
theorem users_at (hj : j < 20) (b : Fin 256) (k : Fin 2) :
    (b21 j s : IVec S256x2 32) (ix2 b k) = (s.main_v1_1 : IVec S256x20x2 32) (ix3 b ⟨j, hj⟩ k) := by
  have h : S256x20x2.Slices ![0, j, 0] S256x1x2 := ⟨rfl, fun a => by
    match a with
    | ⟨0, _⟩ => show 0 + 256 ≤ 256; omega
    | ⟨1, _⟩ => show j + 1 ≤ 20; omega
    | ⟨2, _⟩ => show 0 + 2 ≤ 2; omega⟩
  unfold b21 b20
  rw [Host.dynamicSlice_eq_extractStridedSlice S256x1x2 _ _ ![0, j, 0] _ h fun a => by
    match a with
    | ⟨0, _⟩ => rfl
    | ⟨1, _⟩ => exact trip_17 hj _
    | ⟨2, _⟩ => rfl]
  pointwise []

theorem spk_word (h : Roles j s sp ad) (b : Fin 256) : (b23 j s : IVec S256 32) (ix1 b) = BitVec.ofNat 32 (sp b).val := by
  unfold b23 b22
  pointwise []
  exact (users_at h.lt b 0).trans (h.spk b)

theorem adr_word (h : Roles j s sp ad) (b : Fin 256) : (b25 j s : IVec S256 32) (ix1 b) = BitVec.ofNat 32 (ad b).val := by
  unfold b25 b24
  pointwise []
  exact (users_at h.lt b 1).trans (h.adr b)

section tables
/-! ### The tables of (batch row, role) -/

theorem gather_spk (h : Roles j s sp ad) (b d : Fin 256) :
    (b59 j s : Vec Ideal S256x256 .f32) (ix2 b d) = (s.main_v1_16 : Vec Ideal S256x10x256 .f32) (ix3 b (sp b) d) := by
  unfold b59
  refine RefIndex.gather_pair _ _ b d (sp b) ?_ ?_
  · unfold b58 b57 b56 b55 b54 b53 b52 b51 b50 b49 b48 b47 b46 b45 b44 b43 b42 b26
    pointwise []
    rw [unwrapped _ (by omega)]
    exact toInt_ofNat_of_lt (by omega)
  · unfold b58 b57 b56 b55 b54 b53 b52 b51 b50 b49 b48 b47 b46 b45 b44 b43 b42 b26
    pointwise []
    rw [spk_word h, unwrapped _ (by omega)]
    exact toInt_ofNat_of_lt (by omega)

theorem gather_adr (h : Roles j s sp ad) (b d : Fin 256) :
    (b77 j s : Vec Ideal S256x256 .f32) (ix2 b d) = (s.main_v1_16 : Vec Ideal S256x10x256 .f32) (ix3 b (ad b) d) := by
  unfold b77
  refine RefIndex.gather_pair _ _ b d (ad b) ?_ ?_
  · unfold b76 b75 b74 b73 b72 b71 b70 b69 b68 b67 b66 b65 b64 b63 b62 b61 b60 b26
    pointwise []
    rw [unwrapped _ (by omega)]
    exact toInt_ofNat_of_lt (by omega)
  · unfold b76 b75 b74 b73 b72 b71 b70 b69 b68 b67 b66 b65 b64 b63 b62 b61 b60 b26
    pointwise []
    rw [adr_word h, unwrapped _ (by omega)]
    exact toInt_ofNat_of_lt (by omega)

theorem scatter_spk (h : Roles j s sp ad) (b : Fin 256) (r : Fin 10) (d : Fin 256) :
    (b160 j s : Vec Ideal S256x10x256 .f32) (ix3 b r d)
      = if r = sp b then (b142 j s : Vec Ideal S256x256 .f32) (ix2 b d) else (s.main_v1_16 : Vec Ideal S256x10x256 .f32) (ix3 b r d) := by
  unfold b160
  refine RefIndex.scatter_set _ _ _ sp (fun b => ?_) (fun b => ?_) b r d
  · unfold b159 b158 b157 b156 b155 b154 b153 b152 b151 b150 b149 b148 b147 b146 b145 b144 b143 b26
    pointwise []
    rw [unwrapped _ (by omega)]
    exact toInt_ofNat_of_lt (by omega)
  · unfold b159 b158 b157 b156 b155 b154 b153 b152 b151 b150 b149 b148 b147 b146 b145 b144 b143 b26
    pointwise []
    rw [spk_word h, unwrapped _ (by omega)]
    exact toInt_ofNat_of_lt (by omega)

theorem scatter_adr (h : Roles j s sp ad) (b : Fin 256) (r : Fin 10) (d : Fin 256) :
    (b220 j s : Vec Ideal S256x10x256 .f32) (ix3 b r d)
      = if r = ad b then (b202 j s : Vec Ideal S256x256 .f32) (ix2 b d) else (b160 j s : Vec Ideal S256x10x256 .f32) (ix3 b r d) := by
  unfold b220
  refine RefIndex.scatter_set _ _ _ ad (fun b => ?_) (fun b => ?_) b r d
  · unfold b219 b218 b217 b216 b215 b214 b213 b212 b211 b210 b209 b208 b207 b206 b205 b204 b203 b26
    pointwise []
    rw [unwrapped _ (by omega)]
    exact toInt_ofNat_of_lt (by omega)
  · unfold b219 b218 b217 b216 b215 b214 b213 b212 b211 b210 b209 b208 b207 b206 b205 b204 b203 b26
    pointwise []
    rw [adr_word h, unwrapped _ (by omega)]
    exact toInt_ofNat_of_lt (by omega)

end tables

section others
/-! ### The roles that take no part -/

theorem others_word (h : Roles j s sp ad) (b : Fin 256) (i : Fin 8) :
    (b41 j s : IVec S256x8 32) (ix2 b i) = BitVec.ofNat 32 (RefSort.bystander (sp b) (ad b) i).val := by
  have hw : ∀ k, (b39 j s : IVec S256x10 32) (ix2 b k) = RefSort.word2 (sp b) (ad b) k := by
    intro k
    unfold b39 b38 b37 b36 b35 b34 b33 b32 b31 b30 b29 b28 b27
    pointwise []
    rw [spk_word h, adr_word h]
    rfl
  have e : (b41 j s : IVec S256x8 32) (ix2 b i) = (b40 j s : IVec S256x10 32) (ix2 b ⟨i.val, by omega⟩) := by
    unfold b41
    pointwise []
  rw [e]
  unfold b40
  exact (RefSort.sort_row _ b _ hw _).trans (RefSort.bystander_word _ _ (h.ne b) i)

theorem wrapped_others (h : Roles j s sp ad) (b : Fin 256) (i : Fin 8) :
    (b85 j s : IVec S256x8x1 32) (ix3 b i 0) = BitVec.ofNat 32 (RefSort.bystander (sp b) (ad b) i).val := by
  unfold b85 b84 b83 b82 b81 b80 b79 b78
  pointwise []
  rw [others_word h, unwrapped _ (by omega)]

theorem in_range : ∀ r : Fin 10,
    IntOp.andi (IntOp.cmpi .sge (BitVec.ofNat 32 r.val) 0#32) (IntOp.cmpi .sle (BitVec.ofNat 32 r.val) 9#32) = 1#1 := by
  decide

theorem others_in_range (h : Roles j s sp ad) (b : Fin 256) (i : Fin 8) : (b95 j s : IVec S256x8 1) (ix2 b i) = 1#1 := by
  unfold b95
  refine Host.reduce_andi_one _ _ _ _ _ rfl fun k => ?_
  obtain ⟨b', i', z, rfl⟩ := RefIndex.ix3_all k
  obtain rfl : z = 0 := Subsingleton.elim _ _
  unfold b93 b92 b91 b90 b89 b88 b87 b86
  pointwise []
  rw [wrapped_others h]
  exact in_range _

theorem gather_others (h : Roles j s sp ad) (b : Fin 256) (i : Fin 8) (d : Fin 256) :
    (b100 j s : Vec Ideal S256x8x256 .f32) (ix3 b i d)
      = (s.main_v1_16 : Vec Ideal S256x10x256 .f32) (ix3 b (RefSort.bystander (sp b) (ad b) i) d) := by
  unfold b100 b97
  pointwise []
  rw [others_in_range h]
  refine (ValueIdx.select_one _ _).trans ?_
  unfold b96
  refine RefIndex.gather_along8 _ _ b i d _ ?_
  rw [wrapped_others h]
  exact toInt_ofNat_of_lt (by omega)

theorem scatter_others_table (h : Roles j s sp ad) (b : Fin 256) (i : Fin 8) :
    ((b282 j s : IVec S256x8x2 32) (ix3 b i 0)).toInt = b.val
      ∧ ((b282 j s : IVec S256x8x2 32) (ix3 b i 1)).toInt = (RefSort.bystander (sp b) (ad b) i).val := by
  constructor
  · unfold b282 b281 b280 b279 b278 b277 b276 b275 b274 b273 b272 b271 b270 b269 b268 b267 b266 b265 b264 b26
    pointwise []
    rw [unwrapped _ (by omega)]
    exact toInt_ofNat_of_lt (by omega)
  · unfold b282 b281 b280 b279 b278 b277 b276 b275 b274 b273 b272 b271 b270 b269 b268 b267 b266 b265 b264 b26
    pointwise []
    rw [others_word h, unwrapped _ (by omega)]
    exact toInt_ofNat_of_lt (by omega)

end others

end Cert.Proof.RefUsers

end
-- ==== Proof.RefCell.lean ====
/-
  One trip of the reference, its three GRU cells: each cell's new features are the specification's of its input gates, its hidden
  gates and its state, and the gates are the products the specification writes.
-/
module

public import proofs.«01_k».proof.Proof.RefUsers

@[expose] public section

set_option maxRecDepth 16384

noncomputable section

namespace Cert.Proof.RefCell

open Idealize.ShloMosaic Idealize.ShloMosaic.Tactic Cert.ReferenceIdeal Cert.ReferenceIdeal.Gen Cert.ReferenceIdeal.Step
  Cert.Proof.Model Cert.Proof.RefUsers

/-- Batch row `b` of a state's memory. -/
def memOf (s : State Ideal) (b : Fin 256) : Spec.Mem := fun r d => (s.main_v1_16 : Vec Ideal S256x10x256 .f32) (ix3 b r d)

/-- The encoding of utterance `j` of batch row `b`. -/
def encOf (s : State Ideal) (b : Fin 256) : ℕ → Fin 512 → EReal := utter (s.main_v1_0 : Vec Ideal S256x20x512 .f32) b

/-- A state's weights. -/
def W (s : State Ideal) : Spec.Weights where
  ihS := mat (s.main_v1_2 : Vec Ideal S768x768 .f32)
  hhS := mat (s.main_v1_4 : Vec Ideal S256x768 .f32)
  ihA := mat (s.main_v1_6 : Vec Ideal S768x768 .f32)
  hhA := mat (s.main_v1_8 : Vec Ideal S256x768 .f32)
  ihO := mat (s.main_v1_10 : Vec Ideal S512x768 .f32)
  hhO := mat (s.main_v1_12 : Vec Ideal S256x768 .f32)

/-- A state's biases are zero. -/
structure NoBias (s : State Ideal) : Prop where
  ihS : ∀ n, (s.main_v1_3 : Vec Ideal S768 .f32) (ix1 n) = 0
  hhS : ∀ n, (s.main_v1_5 : Vec Ideal S768 .f32) (ix1 n) = 0
  ihA : ∀ n, (s.main_v1_7 : Vec Ideal S768 .f32) (ix1 n) = 0
  hhA : ∀ n, (s.main_v1_9 : Vec Ideal S768 .f32) (ix1 n) = 0
  ihO : ∀ n, (s.main_v1_11 : Vec Ideal S768 .f32) (ix1 n) = 0
  hhO : ∀ n, (s.main_v1_13 : Vec Ideal S768 .f32) (ix1 n) = 0

variable (j : ℕ) (s : State Ideal)

section cells
/-! ### The cells, of their gates -/

theorem gru_spk (b d : Fin 256) : (b142 j s : Vec Ideal S256x256 .f32) (ix2 b d)
    = Spec.gru (fun n => (b105 j s : Vec Ideal S256x768 .f32) (ix2 b n)) (fun n => (b109 j s : Vec Ideal S256x768 .f32) (ix2 b n))
        ((b59 j s : Vec Ideal S256x256 .f32) (ix2 b d)) d := by
  unfold b142 b141 b140 b139 b138 b137 b136 b135 b134 b133 b132 b131 b130 b129 b128 b127 b126 b125 b124 b123 b122 b121 b120 b119 b118 b117 b116 b115 b114 b113 b112 b111 b110
  generalize b105 j s = gi
  generalize b109 j s = gh
  generalize b59 j s = x
  pointwise [Spec.gru]
  rfl

theorem gru_adr (b d : Fin 256) : (b202 j s : Vec Ideal S256x256 .f32) (ix2 b d)
    = Spec.gru (fun n => (b165 j s : Vec Ideal S256x768 .f32) (ix2 b n)) (fun n => (b169 j s : Vec Ideal S256x768 .f32) (ix2 b n))
        ((b77 j s : Vec Ideal S256x256 .f32) (ix2 b d)) d := by
  unfold b202 b201 b200 b199 b198 b197 b196 b195 b194 b193 b192 b191 b190 b189 b188 b187 b186 b185 b184 b183 b182 b181 b180 b179 b178 b177 b176 b175 b174 b173 b172 b171 b170
  generalize b165 j s = gi
  generalize b169 j s = gh
  generalize b77 j s = x
  pointwise [Spec.gru]
  rfl

theorem gru_others (b : Fin 256) (i : Fin 8) (d : Fin 256) : (b263 j s : Vec Ideal S256x8x256 .f32) (ix3 b i d)
    = Spec.gru (fun n => (b226 j s : Vec Ideal S256x8x768 .f32) (ix3 b i n)) (fun n => (b230 j s : Vec Ideal S256x8x768 .f32) (ix3 b i n))
        ((b100 j s : Vec Ideal S256x8x256 .f32) (ix3 b i d)) d := by
  unfold b263 b262 b261 b260 b259 b258 b257 b256 b255 b254 b253 b252 b251 b250 b249 b248 b247 b246 b245 b244 b243 b242 b241 b240 b239 b238 b237 b236 b235 b234 b233 b232 b231
  generalize b226 j s = gi
  generalize b230 j s = gh
  generalize b100 j s = x
  pointwise [Spec.gru]
  rfl

end cells

section gates
/-! ### The gates -/

variable {j s} {sp ad : Fin 256 → Fin 10} (h : Roles j s sp ad) (hb : NoBias s) (b : Fin 256)
include h

theorem enc_row (k : Fin 512) : (b11 j s : Vec Ideal S256x512 .f32) (ix2 b k) = encOf s b j k :=
  (enc_at h.lt b k).trans (utter_of _ b ⟨j, h.lt⟩ k).symm

include hb

theorem in_spk (n : Fin 768) : (b105 j s : Vec Ideal S256x768 .f32) (ix2 b n)
    = Spec.inGates (W s).ihS (encOf s b j) (memOf s b (ad b)) n := by
  unfold b105 b104 b103 b102 b101
  pointwise []
  rw [hb.ihS, add_zero]
  simp only [enc_row h b, gather_adr h b]
  rfl

theorem hid_spk (n : Fin 768) : (b109 j s : Vec Ideal S256x768 .f32) (ix2 b n) = Spec.lin (memOf s b (sp b)) (W s).hhS n := by
  unfold b109 b108 b107 b106
  pointwise []
  rw [hb.hhS, add_zero]
  simp only [gather_spk h b]
  rfl

theorem in_adr (n : Fin 768) : (b165 j s : Vec Ideal S256x768 .f32) (ix2 b n)
    = Spec.inGates (W s).ihA (encOf s b j) (memOf s b (sp b)) n := by
  unfold b165 b164 b163 b162 b161
  pointwise []
  rw [hb.ihA, add_zero]
  simp only [enc_row h b, gather_spk h b]
  rfl

theorem hid_adr (n : Fin 768) : (b169 j s : Vec Ideal S256x768 .f32) (ix2 b n) = Spec.lin (memOf s b (ad b)) (W s).hhA n := by
  unfold b169 b168 b167 b166
  pointwise []
  rw [hb.hhA, add_zero]
  simp only [gather_adr h b]
  rfl

theorem in_others (i : Fin 8) (n : Fin 768) : (b226 j s : Vec Ideal S256x8x768 .f32) (ix3 b i n)
    = Spec.lin (encOf s b j) (W s).ihO n := by
  unfold b226 b225 b224 b223 b222 b221
  pointwise []
  rw [hb.ihO, add_zero]
  simp only [enc_row h b]
  rfl

theorem hid_others (i : Fin 8) (n : Fin 768) : (b230 j s : Vec Ideal S256x8x768 .f32) (ix3 b i n)
    = Spec.lin (memOf s b (RefSort.bystander (sp b) (ad b) i)) (W s).hhO n := by
  unfold b230 b229 b228 b227
  pointwise []
  rw [hb.hhO, add_zero]
  simp only [gather_others h b]
  rfl

theorem new_spk (d : Fin 256) : (b142 j s : Vec Ideal S256x256 .f32) (ix2 b d)
    = Spec.newS (W s) (encOf s b j) (memOf s b (sp b)) (memOf s b (ad b)) d := by
  rw [gru_spk]
  simp only [in_spk h hb b, hid_spk h hb b, gather_spk h b]
  rfl

theorem new_adr (d : Fin 256) : (b202 j s : Vec Ideal S256x256 .f32) (ix2 b d)
    = Spec.newA (W s) (encOf s b j) (memOf s b (sp b)) (memOf s b (ad b)) d := by
  rw [gru_adr]
  simp only [in_adr h hb b, hid_adr h hb b, gather_adr h b]
  rfl

theorem new_others (i : Fin 8) (d : Fin 256) : (b263 j s : Vec Ideal S256x8x256 .f32) (ix3 b i d)
    = Spec.newO (W s) (encOf s b j) (memOf s b (RefSort.bystander (sp b) (ad b) i)) d := by
  rw [gru_others]
  simp only [in_others h hb b, hid_others h hb b, gather_others h b]
  rfl

/-- A trip is the specification's step on every batch row. -/
theorem step_mem : memOf (step j s) b = Spec.step (W s) (encOf s b j) (sp b) (ad b) (memOf s b) := by
  funext r d
  have e : memOf (step j s) b r d = (b283 j s : Vec Ideal S256x10x256 .f32) (ix3 b r d) := by
    unfold memOf
    rw [step_main_v1_16]
    unfold b286 b285 b284
    pointwise []
  have hx : ∀ r, (b220 j s : Vec Ideal S256x10x256 .f32) (ix3 b r d)
      = if r = ad b then Spec.newA (W s) (encOf s b j) (memOf s b (sp b)) (memOf s b (ad b)) d
        else if r = sp b then Spec.newS (W s) (encOf s b j) (memOf s b (sp b)) (memOf s b (ad b)) d else memOf s b r d := by
    intro r
    rw [scatter_adr h, scatter_spk h, new_adr h hb, new_spk h hb]
    rfl
  rw [e]
  unfold b283 Spec.step
  by_cases h1 : r = sp b
  · rw [if_pos h1, RefIndex.scatter_set8_miss _ _ _ (fun b i => RefSort.bystander (sp b) (ad b) i)
      (fun b i => (scatter_others_table h b i).1) (fun b i => (scatter_others_table h b i).2) b r d
      fun i hi => (RefSort.bystander_ne _ _ (h.ne b) i).1 (hi.trans h1), hx, if_neg, if_pos h1]
    exact fun h2 => h.ne b (h1.symm.trans h2)
  · by_cases h2 : r = ad b
    · rw [if_neg h1, if_pos h2, RefIndex.scatter_set8_miss _ _ _ (fun b i => RefSort.bystander (sp b) (ad b) i)
        (fun b i => (scatter_others_table h b i).1) (fun b i => (scatter_others_table h b i).2) b r d
        fun i hi => (RefSort.bystander_ne _ _ (h.ne b) i).2 (hi.trans h2), hx, if_pos h2]
    · obtain ⟨i, hi⟩ := RefSort.exists_bystander (sp b) (ad b) r (h.ne b) h1 h2
      rw [if_neg h1, if_neg h2]
      refine RefIndex.scatter_set8_hit _ _ _ (fun b i => RefSort.bystander (sp b) (ad b) i)
        (fun b i => (scatter_others_table h b i).1) (fun b i => (scatter_others_table h b i).2) b r d _ i hi fun k hk => ?_
      rw [new_others h hb, hk]

end gates

end Cert.Proof.RefCell

end
-- ==== Proof.RefHead.lean ====
/-
  The reference's selection head, read at an index: which roles it scores, the features it pools, the query and the scores.
-/
module

public import proofs.«01_k».proof.Proof.RefCell

@[expose] public section

set_option maxRecDepth 16384

noncomputable section

namespace Cert.Proof.RefHead

open Idealize.ShloMosaic Idealize.ShloMosaic.Tactic Cert.ReferenceIdeal Cert.ReferenceIdeal.Gen Cert.ReferenceIdeal.Step
  Cert.Proof.Model

variable (A : FVec Ideal S256x10x256 .f32) (resp : IVec S256 32) (M : FVec Ideal S512x256 .f32) (v : FVec Ideal S256 .f32)

/-- The roles' numbers, with 10 in the responder's place, sorted; the first nine of every row. -/
def ids : IVec S256x9 32 :=
  extractStridedSlice S256x9 ![0, 0] (Host.sort S256x10 1 comparator_i32_d1_2 (select
    (cmpi .ne (broadcastInDim S256x10 ![1] bcast_S10_S256x10_1 (iotaInDim S10 32 0))
      (broadcastInDim S256x10 ![0, 1] bcast_S256x1_S256x10_0_1 (broadcastInDim S256x1 ![0] bcast_S256_S256x1_0 resp)))
    (broadcastInDim S256x10 ![1] bcast_S10_S256x10_1 (iotaInDim S10 32 0))
    (broadcastInDim S256x10 ![] bcast_S_S256x10 (constantI S_ 32 10#32)))) slices_S256x10_S256x9_0_0

/-- Those numbers as the table the gather reads. -/
def idTable : IVec S256x9x1 32 :=
  broadcastInDim S256x9x1 ![0, 1] bcast_S256x9_S256x9x1_0_1
    (select (cmpi .slt (ids resp) (broadcastInDim S256x9 ![] bcast_S_S256x9 (constantI S_ 32 0#32)))
      (addi (ids resp) (broadcastInDim S256x9 ![] bcast_S_S256x9 (constantI S_ 32 10#32))) (ids resp))

/-- The table of (batch row, responder). -/
def respTable : IVec S256x2 32 :=
  concatenate S256x2 1
    [⟨S256x1, broadcastInDim S256x1 ![0] bcast_S256_S256x1_0
        (select (cmpi .slt (iotaInDim S256 32 0) (broadcastInDim S256 ![] bcast_S_S256 (constantI S_ 32 0#32)))
          (addi (iotaInDim S256 32 0) (broadcastInDim S256 ![] bcast_S_S256 (constantI S_ 32 256#32))) (iotaInDim S256 32 0))⟩,
     ⟨S256x1, broadcastInDim S256x1 ![0] bcast_S256_S256x1_0
        (select (cmpi .slt resp (broadcastInDim S256 ![] bcast_S_S256 (constantI S_ 32 0#32)))
          (addi resp (broadcastInDim S256 ![] bcast_S_S256 (constantI S_ 32 10#32))) resp)⟩]
    concatenates_S256x1_S256x1_S256x2_d1

/-- The features pooled in groups of eight, roles last. -/
def pooled : FVec Ideal S256x32x10 .f32 :=
  transpose S256x32x10 [0, 2, 1]
    (Host.reduce FloatOps.maximumf (shapeCast _ A shapeCasts_S256x10x256_S256x10x32x8) (constant S_ .f32 0xFF800000#32)
      reducesTo_S256x10x32x8_S256x10x32_d3 h_S_) transposes_S256x10x32_S256x32x10_0_2_1

/-- The pooled features over three roles that follow each other, flat. -/
def context : FVec Ideal S256x256 .f32 :=
  shapeCast _ (maximumf (maximumf (extractStridedSlice S256x32x8 ![0, 0, 0] (pooled A) slices_S256x32x10_S256x32x8_0_0_0)
    (extractStridedSlice S256x32x8 ![0, 0, 1] (pooled A) slices_S256x32x10_S256x32x8_0_0_1))
    (extractStridedSlice S256x32x8 ![0, 0, 2] (pooled A) slices_S256x32x10_S256x32x8_0_0_2)) shapeCasts_S256x32x8_S256x256

/-- The query. -/
def query : FVec Ideal S256x256 .f32 :=
  Host.tanh (addf (addf
    (Host.dotGeneral dot_S256x256_S256x256_S256x256_1_0_0_1_n_n none
      (Host.gather gather_S256x10x256_S256x2_S256x256_1_01_n_n_01_1_11256 A (respTable resp))
      (extractStridedSlice S256x256 ![0, 0] M slices_S512x256_S256x256_0_0))
    (Host.dotGeneral dot_S256x256_S256x256_S256x256_1_0_0_1_n_n none (context A)
      (extractStridedSlice S256x256 ![256, 0] M slices_S512x256_S256x256_256_0)))
    (broadcastInDim S256x256 ![0, 1] bcast_S1x256_S256x256_0_1 (broadcastInDim S1x256 ![1] bcast_S256_S1x256_1 v)))

/-- The features of the nine scored roles. -/
def candidates : FVec Ideal S256x9x256 .f32 :=
  Host.gather gather_S256x10x256_S256x9x1_S256x9x256_2_1_0_0_1_2_11256 A (idTable resp)

theorem scores_eq (s : State Ideal) (N : FVec Ideal S9x9 .f32) (w : FVec Ideal S9 .f32) :
    R_main_v55 s resp M v N w
      = addf (Host.dotGeneral (φ₁ := .f32) dot_S256x9_S9x9_S256x9_1_0_0_1_n_n none
          (Host.dotGeneral dot_S256x9x256_S256x256_S256x9_2_1_1_n_0_0 none
            (candidates s.main_v1_16 resp) (query s.main_v1_16 resp M v)) N)
          (broadcastInDim S256x9 ![0, 1] bcast_S1x9_S256x9_0_1 (broadcastInDim S1x9 ![1] bcast_S9_S1x9_1 w)) := by
  unfold R_main_v55 candidates query context pooled respTable idTable ids
  rfl

/-- The sort of the head, read at one element. -/
theorem sort_row (x : IVec S256x10 32) (b : Fin 256) (w : Fin 10 → BitVec 32) (hx : ∀ k, x (ix2 b k) = w k) (j : Fin 10) :
    Host.sort S256x10 1 comparator_i32_d1_2 x (ix2 b j) = w (RefSort.place w j) :=
  RefSort.sort_row x b w hx j

/-- Sums over 256 features are sums over 32 groups of eight. -/
theorem sum_groups (f : Fin 256 → EReal) : ∑ k, f k = ∑ m : Fin 32, ∑ j : Fin 8, f ⟨m.val * 8 + j.val, by omega⟩ := by
  rw [← Fintype.sum_prod_type' (f := fun (m : Fin 32) (j : Fin 8) => f ⟨m.val * 8 + j.val, by omega⟩)]
  refine (Fintype.sum_equiv (finProdFinEquiv (m := 32) (n := 8)) _ _ fun x => ?_).symm
  refine congrArg f (Fin.ext ?_)
  show x.1.val * 8 + x.2.val = x.2.val + 8 * x.1.val
  omega

section row
/-! ### One batch row -/

variable {resp} (b : Fin 256) (p : Fin 10) (hp : resp (ix1 b) = BitVec.ofNat 32 p.val)

/-- Batch row `b` of a memory. -/
def memOf : Spec.Mem := fun r d => A (ix3 b r d)

include hp

theorem ids_word (j : Fin 9) : ids resp (ix2 b j) = BitVec.ofNat 32 (Spec.other p j).val := by
  have e : ∀ y : IVec S256x10 32, extractStridedSlice S256x9 ![0, 0] y slices_S256x10_S256x9_0_0 (ix2 b j) = y (ix2 b ⟨j.val, by omega⟩) := by
    intro y
    pointwise []
  unfold ids
  rw [e]
  refine (sort_row _ b (RefSort.word1 p) (fun k => ?_) _).trans (RefSort.other_word p j)
  pointwise []
  rw [hp]
  rfl

theorem other_features (j : Fin 9) (d : Fin 256) :
    candidates A resp (ix3 b j d) = memOf A b (Spec.other p j) d := by
  unfold candidates
  refine RefIndex.gather_along9 _ _ b j d _ ?_
  unfold idTable
  pointwise []
  rw [ids_word b p hp, RefUsers.unwrapped _ (by omega)]
  exact toInt_ofNat_of_lt (by omega)

theorem resp_features (d : Fin 256) :
    Host.gather gather_S256x10x256_S256x2_S256x256_1_01_n_n_01_1_11256 A (respTable resp) (ix2 b d) = memOf A b p d := by
  refine RefIndex.gather_pair _ _ b d p ?_ ?_
  · unfold respTable
    pointwise []
    rw [RefUsers.unwrapped _ (by omega)]
    exact toInt_ofNat_of_lt (by omega)
  · unfold respTable
    pointwise []
    rw [hp, RefUsers.unwrapped _ (by omega)]
    exact toInt_ofNat_of_lt (by omega)

omit hp in
theorem pooled_apply (m : Fin 32) (r : Fin 10) : pooled A (ix3 b m r) = Spec.pool (memOf A b) r m := by
  unfold pooled Spec.pool memOf
  pointwise []
  rw [show Ideal.ofBits .f32 0xFF800000#32 = (⊥ : EReal) by simp [Ideal.ofBits, Ideal.ieee]]

omit hp in
theorem context_apply (m : Fin 32) (j : Fin 8) :
    context A (ix2 b ⟨m.val * 8 + j.val, by omega⟩) = Spec.ctx (memOf A b) m j := by
  unfold context Spec.ctx
  simp only [← pooled_apply]
  generalize pooled A = P
  pointwise []
  simp only [Nat.add_comm]

theorem query_apply (hv : ∀ d, v (ix1 d) = 0) (d : Fin 256) :
    query A resp M v (ix2 b d) = Spec.query (mat M) p (memOf A b) d := by
  unfold query Spec.query mat
  simp only [← context_apply, ← resp_features A b p hp]
  generalize context A = C
  generalize Host.gather _ A _ = G
  pointwise []
  rw [hv, add_zero, sum_groups fun k => C (ix2 b k) * _]

/-- The scores of a batch row are the specification's. -/
theorem scores (s : State Ideal) (N : FVec Ideal S9x9 .f32) (w : FVec Ideal S9 .f32) (hv : ∀ d, v (ix1 d) = 0)
    (hw : ∀ n, w (ix1 n) = 0) (n : Fin 9) :
    (R_main_v55 s resp M v N w : FVec Ideal S256x9 .f32) (ix2 b n)
      = Spec.head (mat M) (mat N) p (RefCell.memOf s b) n := by
  have e : RefCell.memOf s b = memOf s.main_v1_16 b := rfl
  rw [scores_eq, e]
  unfold Spec.head
  simp only [← query_apply _ M v b p hp hv, ← other_features _ b p hp]
  generalize query _ _ _ _ = Q
  generalize candidates _ _ = G
  pointwise [mat]
  rw [hw, add_zero]

end row

end Cert.Proof.RefHead

end
-- ==== Proof.RefRun.lean ====
/-
  The reference's run: the states of its loop, what their memory holds, and its two results as the specification's.
-/
module

public import proofs.«01_k».proof.Proof.RefHead
public import proofs.«01_k».proof.Proof.Gen.ReferenceIdeal.StepRun

@[expose] public section

set_option maxRecDepth 16384

noncomputable section

namespace Cert.Proof.RefRun

open Idealize.ShloMosaic Cert.ReferenceIdeal Cert.ReferenceIdeal.Gen Cert.ReferenceIdeal.Step Cert.Proof.Model

/-- The state after `n` trips. -/
def after (s : State Ideal) : ℕ → State Ideal
  | 0 => s
  | n + 1 => step n (after s n)

/-- Everything a trip reads but the memory. -/
structure Same (s t : State Ideal) : Prop where
  enc : s.main_v1_0 = t.main_v1_0
  users : s.main_v1_1 = t.main_v1_1
  ihS : s.main_v1_2 = t.main_v1_2
  bihS : s.main_v1_3 = t.main_v1_3
  hhS : s.main_v1_4 = t.main_v1_4
  bhhS : s.main_v1_5 = t.main_v1_5
  ihA : s.main_v1_6 = t.main_v1_6
  bihA : s.main_v1_7 = t.main_v1_7
  hhA : s.main_v1_8 = t.main_v1_8
  bhhA : s.main_v1_9 = t.main_v1_9
  ihO : s.main_v1_10 = t.main_v1_10
  bihO : s.main_v1_11 = t.main_v1_11
  hhO : s.main_v1_12 = t.main_v1_12
  bhhO : s.main_v1_13 = t.main_v1_13

theorem Same.trans {s t u : State Ideal} (h : Same s t) (g : Same t u) : Same s u :=
  ⟨h.1.trans g.1, h.2.trans g.2, h.3.trans g.3, h.4.trans g.4, h.5.trans g.5, h.6.trans g.6, h.7.trans g.7, h.8.trans g.8,
    h.9.trans g.9, h.10.trans g.10, h.11.trans g.11, h.12.trans g.12, h.13.trans g.13, h.14.trans g.14⟩

/-- A trip changes the memory only. -/
theorem same_step (n : ℕ) (s : State Ideal) : Same (step n s) s := by
  unfold step
  generalize b286 n s = A
  constructor <;> rfl

theorem same_after (s : State Ideal) : ∀ n, Same (after s n) s
  | 0 => by
    show Same s s
    constructor <;> rfl
  | n + 1 => (same_step n (after s n)).trans (same_after s n)

section memory

variable (s : State Ideal) (sp ad : Fin 256 → ℕ → Fin 10)

theorem noBias_of {s t : State Ideal} (h : Same s t) (hb : RefCell.NoBias t) : RefCell.NoBias s := by
  obtain ⟨_, _, _, h3, _, h5, _, h7, _, h9, _, h11, _, h13⟩ := h
  exact ⟨h3 ▸ hb.ihS, h5 ▸ hb.hhS, h7 ▸ hb.ihA, h9 ▸ hb.hhA, h11 ▸ hb.ihO, h13 ▸ hb.hhO⟩

theorem weights_of {s t : State Ideal} (h : Same s t) : RefCell.W s = RefCell.W t := by
  unfold RefCell.W
  rw [h.ihS, h.hhS, h.ihA, h.hhA, h.ihO, h.hhO]

theorem encOf_of {s t : State Ideal} (h : Same s t) (b : Fin 256) : RefCell.encOf s b = RefCell.encOf t b := by
  unfold RefCell.encOf
  rw [h.enc]

/-- The user words of a state name the roles of every trip. -/
theorem roles_of (hn : ∀ b, Names (s.main_v1_1 : IVec S256x20x2 32) b (sp b) (ad b)) (n : ℕ) (hlt : n < 20) :
    RefUsers.Roles n (after s n) (fun b => sp b n) (fun b => ad b n) where
  lt := hlt
  spk b := (congrFun (same_after s n).users _).trans ((hn b).spk ⟨n, hlt⟩)
  adr b := (congrFun (same_after s n).users _).trans ((hn b).adr ⟨n, hlt⟩)
  ne b := (hn b).ne ⟨n, hlt⟩

/-- The memory after `n` trips is the specification's. -/
theorem memory (hn : ∀ b, Names (s.main_v1_1 : IVec S256x20x2 32) b (sp b) (ad b)) (hb : RefCell.NoBias s)
    (h0 : ∀ i, (s.main_v1_16 : FVec Ideal S256x10x256 .f32) i = 0) (b : Fin 256) :
    ∀ n, n ≤ 20 → RefCell.memOf (after s n) b = Spec.run (RefCell.W s) (RefCell.encOf s b) (sp b) (ad b) n
  | 0, _ => funext fun r => funext fun d => h0 _
  | n + 1, hle => by
    show RefCell.memOf (step n (after s n)) b = Spec.step _ _ _ _ (Spec.run _ _ _ _ n)
    rw [RefCell.step_mem (roles_of s sp ad hn n (by omega)) (noBias_of (same_after s n) hb) b, memory hn hb h0 b n (by omega),
      weights_of (same_after s n), encOf_of (same_after s n)]

end memory

section arrays
/-! ### Of the arguments -/

variable (x0 : FVec Ideal S256x20x512 .f32) (x1 : IVec S256x20x2 32) (x2 : IVec S256 32) (x3 : FVec Ideal S768x768 .f32)
  (x4 : FVec Ideal S256x768 .f32) (x5 x6 : FVec Ideal S768 .f32) (x7 : FVec Ideal S768x768 .f32) (x8 : FVec Ideal S256x768 .f32)
  (x9 x10 : FVec Ideal S768 .f32) (x11 : FVec Ideal S512x768 .f32) (x12 : FVec Ideal S256x768 .f32) (x13 x14 : FVec Ideal S768 .f32)
  (x15 : FVec Ideal S512x256 .f32) (x16 : FVec Ideal S256 .f32) (x17 : FVec Ideal S9x9 .f32) (x18 : FVec Ideal S9 .f32)

/-- The loop's last state. -/
abbrev final : State Ideal := after (init x0 x1 x3 x5 x4 x6 x7 x9 x8 x10 x11 x13 x12 x14) 20

variable {x1} (sp ad : Fin 256 → ℕ → Fin 10) (hn : ∀ b, Names x1 b (sp b) (ad b)) (h5 : ∀ d, x5 (ix1 d) = 0) (h6 : ∀ d, x6 (ix1 d) = 0)
  (h9 : ∀ d, x9 (ix1 d) = 0) (h10 : ∀ d, x10 (ix1 d) = 0) (h13 : ∀ d, x13 (ix1 d) = 0) (h14 : ∀ d, x14 (ix1 d) = 0) (b : Fin 256)
include hn h5 h6 h9 h10 h13 h14

/-- The memory the reference returns. -/
theorem final_memory : RefCell.memOf (final x0 x1 x3 x4 x5 x6 x7 x8 x9 x10 x11 x12 x13 x14) b
    = Spec.run ⟨mat x3, mat x4, mat x7, mat x8, mat x11, mat x12⟩ (utter x0 b) (sp b) (ad b) 20 := by
  refine memory _ sp ad hn ⟨h5, h6, h9, h10, h13, h14⟩ (fun i => ?_) b 20 le_rfl
  obtain ⟨b, r, d, rfl⟩ := RefIndex.ix3_all i
  show (K_main_v0 (F := Ideal) : FVec Ideal S256x10x256 .f32) (ix3 b r d) = 0
  unfold K_main_v0 K_main_cst
  pointwise []

/-- The scores it returns. -/
theorem final_scores (p : Fin 10) (hp : x2 (ix1 b) = BitVec.ofNat 32 p.val) (h16 : ∀ d, x16 (ix1 d) = 0)
    (h18 : ∀ n, x18 (ix1 n) = 0) (n : Fin 9) :
    (R_main_v55 (final x0 x1 x3 x4 x5 x6 x7 x8 x9 x10 x11 x12 x13 x14) x2 x15 x16 x17 x18 : FVec Ideal S256x9 .f32) (ix2 b n)
      = Spec.head (mat x15) (mat x17) p
          (Spec.run ⟨mat x3, mat x4, mat x7, mat x8, mat x11, mat x12⟩ (utter x0 b) (sp b) (ad b) 20) n := by
  rw [RefHead.scores x15 x16 b p hp _ x17 x18 h16 h18 n,
    final_memory x0 x3 x4 x5 x6 x7 x8 x9 x10 x11 x12 x13 x14 sp ad hn h5 h6 h9 h10 h13 h14 b]

end arrays

end Cert.Proof.RefRun

end
-- ==== Proof.Words.lean ====
/-
  What the precondition says of the arguments: every user and responder word names a role, the speaker is not the addressee, and
  the biases are zero.
-/
module

public import proofs.«01_k».proof.Proof.Model
public import proofs.«01_k».proof.Pre_inputs_in_range

@[expose] public section

set_option maxRecDepth 16384

noncomputable section

namespace Cert.Proof.Words

open Idealize.ShloMosaic Idealize.ShloMosaic.Tactic Cert.Pre_inputs_in_range Cert.Proof.Model

instance facts : Cert.Pre_inputs_in_range.Facts := by constructor <;> decide

theorem both (x y : BitVec 1) : IntOp.andi x y = 1#1 ↔ x = 1#1 ∧ y = 1#1 := by
  revert x y; decide

theorem flag (p : Prop) [Decidable p] : BitVec.ofBool (decide p) = 1#1 ↔ p := by
  by_cases h : p <;> simp [h]

theorem of_bool (x : Bool) (h : BitVec.ofBool x = 1#1) : x = true := by
  revert h; revert x; decide

/-- A word from 0 up to but not including 10 names a role. -/
theorem role (x : BitVec 32) (h0 : IntOp.cmpi .sge x 0#32 = 1#1) (h1 : IntOp.cmpi .slt x 10#32 = 1#1) :
    ∃ s : Fin 10, x = BitVec.ofNat 32 s.val := by
  have h2 : (0#32).sle x = true := of_bool _ h0
  have h3 : x.slt 10#32 = true := of_bool _ h1
  have h4 : x.toNat < 10 := by
    rw [BitVec.slt_iff_toInt_lt] at h3
    rw [BitVec.sle_iff_toInt_le] at h2
    have h5 : (10#32).toInt = 10 := by decide
    have h6 : (0#32).toInt = 0 := by decide
    rw [h5] at h3
    rw [h6] at h2
    have h7 := BitVec.toInt_eq_toNat_cond x
    have h8 := x.isLt
    split at h7 <;> omega
  exact ⟨⟨x.toNat, h4⟩, by simp⟩

/-- What the precondition says at one index. -/
theorem at_index (a0 : FVec Ideal S256x20x512 .f32) (a1 : IVec S256x20x2 32) (a2 : IVec S256 32) (a3 : FVec Ideal S768x768 .f32)
    (a4 : FVec Ideal S256x768 .f32) (a5 a6 : FVec Ideal S768 .f32) (a7 : FVec Ideal S768x768 .f32) (a8 : FVec Ideal S256x768 .f32)
    (a9 a10 : FVec Ideal S768 .f32) (a11 : FVec Ideal S512x768 .f32) (a12 : FVec Ideal S256x768 .f32) (a13 a14 : FVec Ideal S768 .f32)
    (a15 : FVec Ideal S512x256 .f32) (a16 : FVec Ideal S256 .f32) (a17 : FVec Ideal S9x9 .f32) (a18 : FVec Ideal S9 .f32)
    (h : fn (F := Ideal) a0 a1 a2 a3 a4 a5 a6 a7 a8 a9 a10 a11 a12 a13 a14 a15 a16 a17 a18 = fun _ => 1#1)
    (b : Fin 256) (t : Fin 20) (d : Fin 768) (r : Fin 9) :
    ((∃ s : Fin 10, a1 (ix3 b t 0) = BitVec.ofNat 32 s.val) ∧ (∃ s : Fin 10, a1 (ix3 b t 1) = BitVec.ofNat 32 s.val)
        ∧ a1 (ix3 b t 0) ≠ a1 (ix3 b t 1))
      ∧ (∃ s : Fin 10, a2 (ix1 b) = BitVec.ofNat 32 s.val)
      ∧ (a5 (ix1 d) = 0 ∧ a6 (ix1 d) = 0 ∧ a9 (ix1 d) = 0 ∧ a10 (ix1 d) = 0 ∧ a13 (ix1 d) = 0 ∧ a14 (ix1 d) = 0)
      ∧ a16 (ix1 b) = 0 ∧ a18 (ix1 r) = 0 := by
  have e := congrFun h (ix4 b t d r)
  revert e
  unfold fn fn_part1 fn_part2
  pointwise []
  simp only [both, flag]
  rintro ⟨⟨⟨⟨⟨⟨⟨⟨u0, u1⟩, u2⟩, u3⟩, u4⟩, ⟨p0, p1⟩⟩, ⟨⟨⟨⟨⟨g0, g1⟩, g2⟩, g3⟩, g4⟩, g5⟩⟩, f1⟩, f2⟩
  refine ⟨⟨role _ u0 u1, role _ u2 u3, fun e => ?_⟩, role _ p0 p1, ⟨g0, g1, g2, g3, g4, g5⟩, f1, f2⟩
  rw [e] at u4
  simp [IntOp.cmpi] at u4

/-- What it says of the arguments. -/
theorem decode (a0 : FVec Ideal S256x20x512 .f32) (a1 : IVec S256x20x2 32) (a2 : IVec S256 32) (a3 : FVec Ideal S768x768 .f32)
    (a4 : FVec Ideal S256x768 .f32) (a5 a6 : FVec Ideal S768 .f32) (a7 : FVec Ideal S768x768 .f32) (a8 : FVec Ideal S256x768 .f32)
    (a9 a10 : FVec Ideal S768 .f32) (a11 : FVec Ideal S512x768 .f32) (a12 : FVec Ideal S256x768 .f32) (a13 a14 : FVec Ideal S768 .f32)
    (a15 : FVec Ideal S512x256 .f32) (a16 : FVec Ideal S256 .f32) (a17 : FVec Ideal S9x9 .f32) (a18 : FVec Ideal S9 .f32)
    (h : fn (F := Ideal) a0 a1 a2 a3 a4 a5 a6 a7 a8 a9 a10 a11 a12 a13 a14 a15 a16 a17 a18 = fun _ => 1#1) :
    (∃ s a : Fin 256 → ℕ → Fin 10, ∀ b, Names a1 b (s b) (a b))
      ∧ (∃ p : Fin 256 → Fin 10, ∀ b, a2 (ix1 b) = BitVec.ofNat 32 (p b).val)
      ∧ ((∀ d, a5 (ix1 d) = 0) ∧ (∀ d, a6 (ix1 d) = 0) ∧ (∀ d, a9 (ix1 d) = 0) ∧ (∀ d, a10 (ix1 d) = 0)
        ∧ (∀ d, a13 (ix1 d) = 0) ∧ ∀ d, a14 (ix1 d) = 0)
      ∧ (∀ d, a16 (ix1 d) = 0) ∧ ∀ n, a18 (ix1 n) = 0 := by
  have H := at_index a0 a1 a2 a3 a4 a5 a6 a7 a8 a9 a10 a11 a12 a13 a14 a15 a16 a17 a18 h
  choose s hs using fun b t => (H b t 0 0).1.1
  choose a ha using fun b t => (H b t 0 0).1.2.1
  choose p hp using fun b => (H b 0 0 0).2.1
  refine ⟨⟨fun b i => if hi : i < 20 then s b ⟨i, hi⟩ else 0, fun b i => if hi : i < 20 then a b ⟨i, hi⟩ else 0,
    fun b => ⟨fun i => ?_, fun i => ?_, fun i => ?_⟩⟩, ⟨p, hp⟩, ⟨fun d => (H 0 0 d 0).2.2.1.1, fun d => (H 0 0 d 0).2.2.1.2.1,
    fun d => (H 0 0 d 0).2.2.1.2.2.1, fun d => (H 0 0 d 0).2.2.1.2.2.2.1, fun d => (H 0 0 d 0).2.2.1.2.2.2.2.1,
    fun d => (H 0 0 d 0).2.2.1.2.2.2.2.2⟩, fun d => (H d 0 0 0).2.2.2.1, fun n => (H 0 0 0 n).2.2.2.2⟩
  · dsimp only; rw [dif_pos i.isLt]; exact hs b i
  · dsimp only; rw [dif_pos i.isLt]; exact ha b i
  · dsimp only; rw [dif_pos i.isLt, dif_pos i.isLt]
    intro e
    exact (H b i 0 0).1.2.2 ((hs b i).trans ((congrArg (fun x : Fin 10 => BitVec.ofNat 32 x.val) e).trans (ha b i).symm))

end Cert.Proof.Words

end
-- ==== Proof.Equation.lean ====
/-
  The kernel's arrays are the reference's: under the precondition both are the specification's, batch row by batch row.
-/
module

public import proofs.«01_k».proof.Proof.KArr
public import proofs.«01_k».proof.Proof.RefRun
public import proofs.«01_k».proof.Proof.Words

@[expose] public section

set_option maxRecDepth 16384

noncomputable section

namespace Cert.Proof.Equation

open Idealize.ShloMosaic Cert.KernelIdeal Cert.Proof.Model

variable (m : (ℓ : Loc nD τ sig) → Buf (Elt Ideal) ℓ) (c : Dev nD)

/-- Argument `r` of the kernel. -/
abbrev arg (r : Ref sig .tc) : Buf (Elt Ideal) ((c.tc : Thread nD τ).loc r) := m ((c.tc : Thread nD τ).loc r)

/-- The reference's last state, on the kernel's arguments. -/
abbrev last : Cert.ReferenceIdeal.Step.State Ideal :=
  RefRun.final (arg m c main_arg0) (arg m c main_arg1) (arg m c main_arg3) (arg m c main_arg4) (arg m c main_arg5)
    (arg m c main_arg6) (arg m c main_arg7) (arg m c main_arg8) (arg m c main_arg9) (arg m c main_arg10) (arg m c main_arg11)
    (arg m c main_arg12) (arg m c main_arg13) (arg m c main_arg14)

/-- The precondition on one device. -/
abbrev Holds : Prop :=
  Cert.Pre_inputs_in_range.fn (F := Ideal) (arg m c main_arg0) (arg m c main_arg1) (arg m c main_arg2) (arg m c main_arg3)
    (arg m c main_arg4) (arg m c main_arg5) (arg m c main_arg6) (arg m c main_arg7) (arg m c main_arg8) (arg m c main_arg9)
    (arg m c main_arg10) (arg m c main_arg11) (arg m c main_arg12) (arg m c main_arg13) (arg m c main_arg14) (arg m c main_arg15)
    (arg m c main_arg16) (arg m c main_arg17) (arg m c main_arg18) = fun _ => 1#1

theorem memory_eq (h : Holds m c) :
    ((last m c).main_v1_16 : FVec Ideal Cert.ReferenceIdeal.S256x10x256 .f32) = KArr.unstack (KArr.memory m c) := by
  obtain ⟨⟨s, a, hn⟩, -, ⟨h5, h6, h9, h10, h13, h14⟩, -, -⟩ := Words.decode _ _ _ _ _ _ _ _ _ _ _ _ _ _ _ _ _ _ _ h
  funext i
  obtain ⟨b, r, d, rfl⟩ := RefIndex.ix3_all i
  refine (congrFun (congrFun (RefRun.final_memory _ _ _ _ _ _ _ _ _ _ _ _ _ s a hn h5 h6 h9 h10 h13 h14 b) r) d).trans ?_
  rw [KArr.unstack_apply]
  exact (congrFun (congrFun (KRun.mem_last m c b (s b) (a b) (hn b)) r) d).symm

theorem scores_eq (h : Holds m c) :
    (Cert.ReferenceIdeal.Step.R_main_v55 (last m c) (arg m c main_arg2) (arg m c main_arg15) (arg m c main_arg16) (arg m c main_arg17)
      (arg m c main_arg18) : FVec Ideal Cert.ReferenceIdeal.S256x9 .f32) = KArr.scores m c := by
  obtain ⟨⟨s, a, hn⟩, ⟨p, hp⟩, ⟨h5, h6, h9, h10, h13, h14⟩, h16, h18⟩ := Words.decode _ _ _ _ _ _ _ _ _ _ _ _ _ _ _ _ _ _ _ h
  funext i
  obtain ⟨b, n, rfl⟩ := RefIndex.ix2_all i
  refine (RefRun.final_scores _ _ _ _ _ _ _ _ _ _ _ _ _ _ _ _ _ _ s a hn h5 h6 h9 h10 h13 h14 b (p b) (hp b) h16 h18 n).trans ?_
  exact (KRun.head_last m c b (s b) (a b) (hn b) (p b) (hp b) n).symm

end Cert.Proof.Equation

end
-- ==== Proof.lean ====
/-
  The proof of the certificate's claims: the frames of the three programs, the idealization, and the equation of the kernel and
  the reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import Idealize.ShloMosaic.Adequacy
public import Idealize.ShloMosaic.Init
public import proofs.«01_k».proof.Proof.Equation

@[expose] public section

set_option maxRecDepth 16384

noncomputable section

namespace Cert.Proof

open Idealize.ShloMosaic Idealize.SL.Sem

/-- The reference runs, leaves its arguments, and has no semaphores, so they all end at zero. -/
theorem reference_frame : Cert.quiescent_ReferenceIdeal := fun m' g' _ =>
  (θ_run Cert.ReferenceIdeal.defs _ _).mono (fun r h => ⟨fun c => (h c).2.2, sem_eq_zero_of_no_sems (by decide) r.2⟩)
    (Cert.ReferenceIdeal.StepRun.run_iter (F := Ideal) m' g'
      (fun c => RefRun.after (Cert.ReferenceIdeal.StepRun.initState m' c)) (fun _ => rfl) (fun _ _ => rfl))

/-- The kernel and the reference compute the same scores and the same memory. -/
theorem equation : Cert.algebraic_KernelIdeal_ReferenceIdeal_pre_inputs_in_range := by
  intro m g m' g' hpre hag
  have e : ∀ c, RefRun.after (Cert.ReferenceIdeal.StepRun.initState m' c) 20 = Equation.last m c := by
    intro c
    obtain ⟨e0, e1, -, e3, e4, e5, e6, e7, e8, e9, e10, e11, e12, e13, e14, -⟩ := hag c
    unfold Equation.last RefRun.final Cert.ReferenceIdeal.StepRun.initState Equation.arg
    rw [e0, e1, e3, e4, e5, e6, e7, e8, e9, e10, e11, e12, e13, e14]
  refine ⟨fun c => KArr.scores m c, fun c => KArr.unstack (KArr.memory m c), ?_, ?_⟩
  · exact (θ_run Cert.KernelIdeal.defs _ _).mono (fun _ h c => ⟨(h.1 c).1, (h.1 c).2, h.2 c⟩)
      (θ_run_and (KArr.values m g) (Cert.KernelIdeal.Gen.unchanged m g))
  · refine (θ_run Cert.ReferenceIdeal.defs _ _).mono (fun _ h c => ⟨(h c).1.trans ?_, (h c).2.1.trans ?_, (h c).2.2⟩)
      (Cert.ReferenceIdeal.StepRun.run_iter (F := Ideal) m' g'
        (fun c => RefRun.after (Cert.ReferenceIdeal.StepRun.initState m' c)) (fun _ => rfl) (fun _ _ => rfl))
    · obtain ⟨-, -, e2, -, -, -, -, -, -, -, -, -, -, -, -, e15, e16, e17, e18⟩ := hag c
      rw [e c, e2, e15, e16, e17, e18]
      exact Equation.scores_eq m c (hpre c)
    · rw [e c]
      exact Equation.memory_eq m c (hpre c)

theorem claim : Cert.Claim := ⟨Cert.Kernel.Gen.facts, Cert.KernelIdeal.Gen.facts, Cert.ReferenceIdeal.Gen.facts, Words.facts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial, trivial, equation⟩

end Cert.Proof

end
